-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_scores [hPre_finite_scores : Cert.Pre_finite_scores.Facts] (m : (ℓ : Loc Cert.AttnIdeal.nD Cert.AttnIdeal.τ Cert.AttnIdeal.sig) → Buf (Elt Ideal) ℓ) : Prop :=
  ∀ c : Dev Cert.AttnIdeal.nD,
    (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_finite_scores.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite_scores [hPre_finite_scores : Cert.Pre_finite_scores.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_finite_scores.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2 = (fun _ => 1#1)

def Pre_FfnFinal (m : (ℓ : Loc Cert.FfnFinal.nD Cert.FfnFinal.τ Cert.FfnFinal.sig) → Buf (Elt Bits) ℓ) : Prop :=
  True

def Pre_FfnFinalIdeal (m : (ℓ : Loc Cert.FfnFinalIdeal.nD Cert.FfnFinalIdeal.τ Cert.FfnFinalIdeal.sig) → Buf (Elt Ideal) ℓ) : Prop :=
  True

def Pre_FfnFinalRefIdeal (m : (ℓ : Loc Cert.FfnFinalRefIdeal.nD Cert.FfnFinalRefIdeal.τ Cert.FfnFinalRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_FfnSample (m : (ℓ : Loc Cert.FfnSample.nD Cert.FfnSample.τ Cert.FfnSample.sig) → Buf (Elt Bits) ℓ) : Prop :=
  True

def Pre_FfnSampleIdeal (m : (ℓ : Loc Cert.FfnSampleIdeal.nD Cert.FfnSampleIdeal.τ Cert.FfnSampleIdeal.sig) → Buf (Elt Ideal) ℓ) : Prop :=
  True

def Pre_FfnSampleRefIdeal (m : (ℓ : Loc Cert.FfnSampleRefIdeal.nD Cert.FfnSampleRefIdeal.τ Cert.FfnSampleRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite_scores [hAttnIdeal : Cert.AttnIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_scores m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite_scores [hAttnRefIdeal : Cert.AttnRefIdeal.Facts] [hPre_finite_scores : Cert.Pre_finite_scores.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite_scores m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnFinal [hFfnFinal : Cert.FfnFinal.Facts] : Prop :=
  ∀ (m : (ℓ : Loc Cert.FfnFinal.nD Cert.FfnFinal.τ Cert.FfnFinal.sig) → Buf (Elt Bits) ℓ) (g : Dev Cert.FfnFinal.nD → PrngReg), Pre_FfnFinal m →
    θ_run (Cert.FfnFinal.defs (F := Bits)) (onTc (τ := Cert.FfnFinal.τ) (Cert.FfnFinal.main (F := Bits))) ⟨m, fun _ => 0, g⟩ (fun r => (∀ c : Dev Cert.FfnFinal.nD,
      r.2.mem ((c.tc : Thread Cert.FfnFinal.nD Cert.FfnFinal.τ).loc Cert.FfnFinal.main_arg0) = m ((c.tc : Thread Cert.FfnFinal.nD Cert.FfnFinal.τ).loc Cert.FfnFinal.main_arg0)
      ∧ r.2.mem ((c.tc : Thread Cert.FfnFinal.nD Cert.FfnFinal.τ).loc Cert.FfnFinal.main_arg1) = m ((c.tc : Thread Cert.FfnFinal.nD Cert.FfnFinal.τ).loc Cert.FfnFinal.main_arg1)
      ∧ r.2.mem ((c.tc : Thread Cert.FfnFinal.nD Cert.FfnFinal.τ).loc Cert.FfnFinal.main_arg2) = m ((c.tc : Thread Cert.FfnFinal.nD Cert.FfnFinal.τ).loc Cert.FfnFinal.main_arg2)
      ∧ r.2.mem ((c.tc : Thread Cert.FfnFinal.nD Cert.FfnFinal.τ).loc Cert.FfnFinal.main_arg3) = m ((c.tc : Thread Cert.FfnFinal.nD Cert.FfnFinal.τ).loc Cert.FfnFinal.main_arg3)
      ∧ r.2.mem ((c.tc : Thread Cert.FfnFinal.nD Cert.FfnFinal.τ).loc Cert.FfnFinal.main_arg4) = m ((c.tc : Thread Cert.FfnFinal.nD Cert.FfnFinal.τ).loc Cert.FfnFinal.main_arg4)
      ∧ r.2.mem ((c.tc : Thread Cert.FfnFinal.nD Cert.FfnFinal.τ).loc Cert.FfnFinal.main_arg5) = m ((c.tc : Thread Cert.FfnFinal.nD Cert.FfnFinal.τ).loc Cert.FfnFinal.main_arg5))
      ∧ r.2.sem = fun _ => 0)

def quiescent_FfnFinalIdeal [hFfnFinalIdeal : Cert.FfnFinalIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg), Pre_FfnFinalIdeal m →
    θ_run (Cert.FfnFinalIdeal.defs (F := Ideal)) (onTc (τ := Cert.FfnFinalIdeal.τ) (Cert.FfnFinalIdeal.main (F := Ideal))) ⟨m, fun _ => 0, g⟩ (fun r => (∀ c : Dev Cert.FfnFinalIdeal.nD,
      r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
      ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
      ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
      ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
      ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
      ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ r.2.sem = fun _ => 0)

def quiescent_FfnFinalRefIdeal [hFfnFinalRefIdeal : Cert.FfnFinalRefIdeal.Facts] : Prop :=
  ∀ (m : (ℓ : Loc Cert.FfnFinalRefIdeal.nD Cert.FfnFinalRefIdeal.τ Cert.FfnFinalRefIdeal.sig) → Buf (Elt Ideal) ℓ) (g : Dev Cert.FfnFinalRefIdeal.nD → PrngReg), Pre_FfnFinalRefIdeal m →
    θ_run (Cert.FfnFinalRefIdeal.defs (F := Ideal)) (onTc (τ := Cert.FfnFinalRefIdeal.τ) (Cert.FfnFinalRefIdeal.main (F := Ideal))) ⟨m, fun _ => 0, g⟩ (fun r => (∀ c : Dev Cert.FfnFinalRefIdeal.nD,
      r.2.mem ((c.tc : Thread Cert.FfnFinalRefIdeal.nD Cert.FfnFinalRefIdeal.τ).loc Cert.FfnFinalRefIdeal.main_arg0) = m ((c.tc : Thread Cert.FfnFinalRefIdeal.nD Cert.FfnFinalRefIdeal.τ).loc Cert.FfnFinalRefIdeal.main_arg0)
      ∧ r.2.mem ((c.tc : Thread Cert.FfnFinalRefIdeal.nD Cert.FfnFinalRefIdeal.τ).loc Cert.FfnFinalRefIdeal.main_arg1) = m ((c.tc : Thread Cert.FfnFinalRefIdeal.nD Cert.FfnFinalRefIdeal.τ).loc Cert.FfnFinalRefIdeal.main_arg1)
      ∧ r.2.mem ((c.tc : Thread Cert.FfnFinalRefIdeal.nD Cert.FfnFinalRefIdeal.τ).loc Cert.FfnFinalRefIdeal.main_arg2) = m ((c.tc : Thread Cert.FfnFinalRefIdeal.nD Cert.FfnFinalRefIdeal.τ).loc Cert.FfnFinalRefIdeal.main_arg2)
      ∧ r.2.mem ((c.tc : Thread Cert.FfnFinalRefIdeal.nD Cert.FfnFinalRefIdeal.τ).loc Cert.FfnFinalRefIdeal.main_arg3) = m ((c.tc : Thread Cert.FfnFinalRefIdeal.nD Cert.FfnFinalRefIdeal.τ).loc Cert.FfnFinalRefIdeal.main_arg3)
      ∧ r.2.mem ((c.tc : Thread Cert.FfnFinalRefIdeal.nD Cert.FfnFinalRefIdeal.τ).loc Cert.FfnFinalRefIdeal.main_arg4) = m ((c.tc : Thread Cert.FfnFinalRefIdeal.nD Cert.FfnFinalRefIdeal.τ).loc Cert.FfnFinalRefIdeal.main_arg4)
      ∧ r.2.mem ((c.tc : Thread Cert.FfnFinalRefIdeal.nD Cert.FfnFinalRefIdeal.τ).loc Cert.FfnFinalRefIdeal.main_arg5) = m ((c.tc : Thread Cert.FfnFinalRefIdeal.nD Cert.FfnFinalRefIdeal.τ).loc Cert.FfnFinalRefIdeal.main_arg5))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnSample [hFfnSample : Cert.FfnSample.Facts] : Prop :=
  ∀ (m : (ℓ : Loc Cert.FfnSample.nD Cert.FfnSample.τ Cert.FfnSample.sig) → Buf (Elt Bits) ℓ) (g : Dev Cert.FfnSample.nD → PrngReg), Pre_FfnSample m →
    θ_run (Cert.FfnSample.defs (F := Bits)) (onTc (τ := Cert.FfnSample.τ) (Cert.FfnSample.main (F := Bits))) ⟨m, fun _ => 0, g⟩ (fun r => (∀ c : Dev Cert.FfnSample.nD,
      r.2.mem ((c.tc : Thread Cert.FfnSample.nD Cert.FfnSample.τ).loc Cert.FfnSample.main_arg0) = m ((c.tc : Thread Cert.FfnSample.nD Cert.FfnSample.τ).loc Cert.FfnSample.main_arg0)
      ∧ r.2.mem ((c.tc : Thread Cert.FfnSample.nD Cert.FfnSample.τ).loc Cert.FfnSample.main_arg1) = m ((c.tc : Thread Cert.FfnSample.nD Cert.FfnSample.τ).loc Cert.FfnSample.main_arg1)
      ∧ r.2.mem ((c.tc : Thread Cert.FfnSample.nD Cert.FfnSample.τ).loc Cert.FfnSample.main_arg2) = m ((c.tc : Thread Cert.FfnSample.nD Cert.FfnSample.τ).loc Cert.FfnSample.main_arg2)
      ∧ r.2.mem ((c.tc : Thread Cert.FfnSample.nD Cert.FfnSample.τ).loc Cert.FfnSample.main_arg3) = m ((c.tc : Thread Cert.FfnSample.nD Cert.FfnSample.τ).loc Cert.FfnSample.main_arg3)
      ∧ r.2.mem ((c.tc : Thread Cert.FfnSample.nD Cert.FfnSample.τ).loc Cert.FfnSample.main_arg4) = m ((c.tc : Thread Cert.FfnSample.nD Cert.FfnSample.τ).loc Cert.FfnSample.main_arg4)
      ∧ r.2.mem ((c.tc : Thread Cert.FfnSample.nD Cert.FfnSample.τ).loc Cert.FfnSample.main_arg5) = m ((c.tc : Thread Cert.FfnSample.nD Cert.FfnSample.τ).loc Cert.FfnSample.main_arg5))
      ∧ r.2.sem = fun _ => 0)

def quiescent_FfnSampleIdeal [hFfnSampleIdeal : Cert.FfnSampleIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg), Pre_FfnSampleIdeal m →
    θ_run (Cert.FfnSampleIdeal.defs (F := Ideal)) (onTc (τ := Cert.FfnSampleIdeal.τ) (Cert.FfnSampleIdeal.main (F := Ideal))) ⟨m, fun _ => 0, g⟩ (fun r => (∀ c : Dev Cert.FfnSampleIdeal.nD,
      r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
      ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
      ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
      ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
      ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
      ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ r.2.sem = fun _ => 0)

def quiescent_FfnSampleRefIdeal [hFfnSampleRefIdeal : Cert.FfnSampleRefIdeal.Facts] : Prop :=
  ∀ (m : (ℓ : Loc Cert.FfnSampleRefIdeal.nD Cert.FfnSampleRefIdeal.τ Cert.FfnSampleRefIdeal.sig) → Buf (Elt Ideal) ℓ) (g : Dev Cert.FfnSampleRefIdeal.nD → PrngReg), Pre_FfnSampleRefIdeal m →
    θ_run (Cert.FfnSampleRefIdeal.defs (F := Ideal)) (onTc (τ := Cert.FfnSampleRefIdeal.τ) (Cert.FfnSampleRefIdeal.main (F := Ideal))) ⟨m, fun _ => 0, g⟩ (fun r => (∀ c : Dev Cert.FfnSampleRefIdeal.nD,
      r.2.mem ((c.tc : Thread Cert.FfnSampleRefIdeal.nD Cert.FfnSampleRefIdeal.τ).loc Cert.FfnSampleRefIdeal.main_arg0) = m ((c.tc : Thread Cert.FfnSampleRefIdeal.nD Cert.FfnSampleRefIdeal.τ).loc Cert.FfnSampleRefIdeal.main_arg0)
      ∧ r.2.mem ((c.tc : Thread Cert.FfnSampleRefIdeal.nD Cert.FfnSampleRefIdeal.τ).loc Cert.FfnSampleRefIdeal.main_arg1) = m ((c.tc : Thread Cert.FfnSampleRefIdeal.nD Cert.FfnSampleRefIdeal.τ).loc Cert.FfnSampleRefIdeal.main_arg1)
      ∧ r.2.mem ((c.tc : Thread Cert.FfnSampleRefIdeal.nD Cert.FfnSampleRefIdeal.τ).loc Cert.FfnSampleRefIdeal.main_arg2) = m ((c.tc : Thread Cert.FfnSampleRefIdeal.nD Cert.FfnSampleRefIdeal.τ).loc Cert.FfnSampleRefIdeal.main_arg2)
      ∧ r.2.mem ((c.tc : Thread Cert.FfnSampleRefIdeal.nD Cert.FfnSampleRefIdeal.τ).loc Cert.FfnSampleRefIdeal.main_arg3) = m ((c.tc : Thread Cert.FfnSampleRefIdeal.nD Cert.FfnSampleRefIdeal.τ).loc Cert.FfnSampleRefIdeal.main_arg3)
      ∧ r.2.mem ((c.tc : Thread Cert.FfnSampleRefIdeal.nD Cert.FfnSampleRefIdeal.τ).loc Cert.FfnSampleRefIdeal.main_arg4) = m ((c.tc : Thread Cert.FfnSampleRefIdeal.nD Cert.FfnSampleRefIdeal.τ).loc Cert.FfnSampleRefIdeal.main_arg4)
      ∧ r.2.mem ((c.tc : Thread Cert.FfnSampleRefIdeal.nD Cert.FfnSampleRefIdeal.τ).loc Cert.FfnSampleRefIdeal.main_arg5) = m ((c.tc : Thread Cert.FfnSampleRefIdeal.nD Cert.FfnSampleRefIdeal.τ).loc Cert.FfnSampleRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite_scores [hAttnIdeal : Cert.AttnIdeal.Facts] [hAttnRefIdeal : Cert.AttnRefIdeal.Facts] [hPre_finite_scores : Cert.Pre_finite_scores.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite_scores m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v66) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnFinal_FfnFinalIdeal : Prop :=
  True

def algebraic_FfnFinalIdeal_FfnFinalRefIdeal [hFfnFinalIdeal : Cert.FfnFinalIdeal.Facts] [hFfnFinalRefIdeal : Cert.FfnFinalRefIdeal.Facts] : Prop :=
  ∀ (m : (ℓ : Loc Cert.FfnFinalIdeal.nD Cert.FfnFinalIdeal.τ Cert.FfnFinalIdeal.sig) → Buf (Elt Ideal) ℓ) (g : Dev Cert.FfnFinalIdeal.nD → PrngReg)
    (m' : (ℓ : Loc Cert.FfnFinalRefIdeal.nD Cert.FfnFinalRefIdeal.τ Cert.FfnFinalRefIdeal.sig) → Buf (Elt Ideal) ℓ) (g' : Dev Cert.FfnFinalRefIdeal.nD → PrngReg), Pre_FfnFinalIdeal m →
    (∀ c : Dev Cert.FfnFinalIdeal.nD,
      m' ((c.tc : Thread Cert.FfnFinalRefIdeal.nD Cert.FfnFinalRefIdeal.τ).loc Cert.FfnFinalRefIdeal.main_arg0) = m ((c.tc : Thread Cert.FfnFinalIdeal.nD Cert.FfnFinalIdeal.τ).loc Cert.FfnFinalIdeal.main_arg0)
      ∧ m' ((c.tc : Thread Cert.FfnFinalRefIdeal.nD Cert.FfnFinalRefIdeal.τ).loc Cert.FfnFinalRefIdeal.main_arg1) = m ((c.tc : Thread Cert.FfnFinalIdeal.nD Cert.FfnFinalIdeal.τ).loc Cert.FfnFinalIdeal.main_arg1)
      ∧ m' ((c.tc : Thread Cert.FfnFinalRefIdeal.nD Cert.FfnFinalRefIdeal.τ).loc Cert.FfnFinalRefIdeal.main_arg2) = m ((c.tc : Thread Cert.FfnFinalIdeal.nD Cert.FfnFinalIdeal.τ).loc Cert.FfnFinalIdeal.main_arg2)
      ∧ m' ((c.tc : Thread Cert.FfnFinalRefIdeal.nD Cert.FfnFinalRefIdeal.τ).loc Cert.FfnFinalRefIdeal.main_arg3) = m ((c.tc : Thread Cert.FfnFinalIdeal.nD Cert.FfnFinalIdeal.τ).loc Cert.FfnFinalIdeal.main_arg3)
      ∧ m' ((c.tc : Thread Cert.FfnFinalRefIdeal.nD Cert.FfnFinalRefIdeal.τ).loc Cert.FfnFinalRefIdeal.main_arg4) = m ((c.tc : Thread Cert.FfnFinalIdeal.nD Cert.FfnFinalIdeal.τ).loc Cert.FfnFinalIdeal.main_arg4)
      ∧ m' ((c.tc : Thread Cert.FfnFinalRefIdeal.nD Cert.FfnFinalRefIdeal.τ).loc Cert.FfnFinalRefIdeal.main_arg5) = m ((c.tc : Thread Cert.FfnFinalIdeal.nD Cert.FfnFinalIdeal.τ).loc Cert.FfnFinalIdeal.main_arg5)) →
    ∃ (v0 : (c : Dev Cert.FfnFinalIdeal.nD) → Buf (Elt Ideal) ((c.tc : Thread Cert.FfnFinalIdeal.nD Cert.FfnFinalIdeal.τ).loc Cert.FfnFinalIdeal.main_v5)),
      θ_run (Cert.FfnFinalIdeal.defs (F := Ideal)) (onTc (τ := Cert.FfnFinalIdeal.τ) (Cert.FfnFinalIdeal.main (F := Ideal))) ⟨m, fun _ => 0, g⟩ (fun r => ∀ c : Dev Cert.FfnFinalIdeal.nD,
          r.2.mem ((c.tc : Thread Cert.FfnFinalIdeal.nD Cert.FfnFinalIdeal.τ).loc Cert.FfnFinalIdeal.main_v5) = v0 c
          ∧ r.2.mem ((c.tc : Thread Cert.FfnFinalIdeal.nD Cert.FfnFinalIdeal.τ).loc Cert.FfnFinalIdeal.main_arg0) = m ((c.tc : Thread Cert.FfnFinalIdeal.nD Cert.FfnFinalIdeal.τ).loc Cert.FfnFinalIdeal.main_arg0)
          ∧ r.2.mem ((c.tc : Thread Cert.FfnFinalIdeal.nD Cert.FfnFinalIdeal.τ).loc Cert.FfnFinalIdeal.main_arg1) = m ((c.tc : Thread Cert.FfnFinalIdeal.nD Cert.FfnFinalIdeal.τ).loc Cert.FfnFinalIdeal.main_arg1)
          ∧ r.2.mem ((c.tc : Thread Cert.FfnFinalIdeal.nD Cert.FfnFinalIdeal.τ).loc Cert.FfnFinalIdeal.main_arg2) = m ((c.tc : Thread Cert.FfnFinalIdeal.nD Cert.FfnFinalIdeal.τ).loc Cert.FfnFinalIdeal.main_arg2)
          ∧ r.2.mem ((c.tc : Thread Cert.FfnFinalIdeal.nD Cert.FfnFinalIdeal.τ).loc Cert.FfnFinalIdeal.main_arg3) = m ((c.tc : Thread Cert.FfnFinalIdeal.nD Cert.FfnFinalIdeal.τ).loc Cert.FfnFinalIdeal.main_arg3)
          ∧ r.2.mem ((c.tc : Thread Cert.FfnFinalIdeal.nD Cert.FfnFinalIdeal.τ).loc Cert.FfnFinalIdeal.main_arg4) = m ((c.tc : Thread Cert.FfnFinalIdeal.nD Cert.FfnFinalIdeal.τ).loc Cert.FfnFinalIdeal.main_arg4)
          ∧ r.2.mem ((c.tc : Thread Cert.FfnFinalIdeal.nD Cert.FfnFinalIdeal.τ).loc Cert.FfnFinalIdeal.main_arg5) = m ((c.tc : Thread Cert.FfnFinalIdeal.nD Cert.FfnFinalIdeal.τ).loc Cert.FfnFinalIdeal.main_arg5))
      ∧ θ_run (Cert.FfnFinalRefIdeal.defs (F := Ideal)) (onTc (τ := Cert.FfnFinalRefIdeal.τ) (Cert.FfnFinalRefIdeal.main (F := Ideal))) ⟨m', fun _ => 0, g'⟩ (fun r => ∀ c : Dev Cert.FfnFinalRefIdeal.nD,
          r.2.mem ((c.tc : Thread Cert.FfnFinalRefIdeal.nD Cert.FfnFinalRefIdeal.τ).loc Cert.FfnFinalRefIdeal.main_v61) = v0 c
          ∧ r.2.mem ((c.tc : Thread Cert.FfnFinalRefIdeal.nD Cert.FfnFinalRefIdeal.τ).loc Cert.FfnFinalRefIdeal.main_arg0) = m' ((c.tc : Thread Cert.FfnFinalRefIdeal.nD Cert.FfnFinalRefIdeal.τ).loc Cert.FfnFinalRefIdeal.main_arg0)
          ∧ r.2.mem ((c.tc : Thread Cert.FfnFinalRefIdeal.nD Cert.FfnFinalRefIdeal.τ).loc Cert.FfnFinalRefIdeal.main_arg1) = m' ((c.tc : Thread Cert.FfnFinalRefIdeal.nD Cert.FfnFinalRefIdeal.τ).loc Cert.FfnFinalRefIdeal.main_arg1)
          ∧ r.2.mem ((c.tc : Thread Cert.FfnFinalRefIdeal.nD Cert.FfnFinalRefIdeal.τ).loc Cert.FfnFinalRefIdeal.main_arg2) = m' ((c.tc : Thread Cert.FfnFinalRefIdeal.nD Cert.FfnFinalRefIdeal.τ).loc Cert.FfnFinalRefIdeal.main_arg2)
          ∧ r.2.mem ((c.tc : Thread Cert.FfnFinalRefIdeal.nD Cert.FfnFinalRefIdeal.τ).loc Cert.FfnFinalRefIdeal.main_arg3) = m' ((c.tc : Thread Cert.FfnFinalRefIdeal.nD Cert.FfnFinalRefIdeal.τ).loc Cert.FfnFinalRefIdeal.main_arg3)
          ∧ r.2.mem ((c.tc : Thread Cert.FfnFinalRefIdeal.nD Cert.FfnFinalRefIdeal.τ).loc Cert.FfnFinalRefIdeal.main_arg4) = m' ((c.tc : Thread Cert.FfnFinalRefIdeal.nD Cert.FfnFinalRefIdeal.τ).loc Cert.FfnFinalRefIdeal.main_arg4)
          ∧ r.2.mem ((c.tc : Thread Cert.FfnFinalRefIdeal.nD Cert.FfnFinalRefIdeal.τ).loc Cert.FfnFinalRefIdeal.main_arg5) = m' ((c.tc : Thread Cert.FfnFinalRefIdeal.nD Cert.FfnFinalRefIdeal.τ).loc Cert.FfnFinalRefIdeal.main_arg5))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v48) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_FfnSample_FfnSampleIdeal : Prop :=
  True

def algebraic_FfnSampleIdeal_FfnSampleRefIdeal [hFfnSampleIdeal : Cert.FfnSampleIdeal.Facts] [hFfnSampleRefIdeal : Cert.FfnSampleRefIdeal.Facts] : Prop :=
  ∀ (m : (ℓ : Loc Cert.FfnSampleIdeal.nD Cert.FfnSampleIdeal.τ Cert.FfnSampleIdeal.sig) → Buf (Elt Ideal) ℓ) (g : Dev Cert.FfnSampleIdeal.nD → PrngReg)
    (m' : (ℓ : Loc Cert.FfnSampleRefIdeal.nD Cert.FfnSampleRefIdeal.τ Cert.FfnSampleRefIdeal.sig) → Buf (Elt Ideal) ℓ) (g' : Dev Cert.FfnSampleRefIdeal.nD → PrngReg), Pre_FfnSampleIdeal m →
    (∀ c : Dev Cert.FfnSampleIdeal.nD,
      m' ((c.tc : Thread Cert.FfnSampleRefIdeal.nD Cert.FfnSampleRefIdeal.τ).loc Cert.FfnSampleRefIdeal.main_arg0) = m ((c.tc : Thread Cert.FfnSampleIdeal.nD Cert.FfnSampleIdeal.τ).loc Cert.FfnSampleIdeal.main_arg0)
      ∧ m' ((c.tc : Thread Cert.FfnSampleRefIdeal.nD Cert.FfnSampleRefIdeal.τ).loc Cert.FfnSampleRefIdeal.main_arg1) = m ((c.tc : Thread Cert.FfnSampleIdeal.nD Cert.FfnSampleIdeal.τ).loc Cert.FfnSampleIdeal.main_arg1)
      ∧ m' ((c.tc : Thread Cert.FfnSampleRefIdeal.nD Cert.FfnSampleRefIdeal.τ).loc Cert.FfnSampleRefIdeal.main_arg2) = m ((c.tc : Thread Cert.FfnSampleIdeal.nD Cert.FfnSampleIdeal.τ).loc Cert.FfnSampleIdeal.main_arg2)
      ∧ m' ((c.tc : Thread Cert.FfnSampleRefIdeal.nD Cert.FfnSampleRefIdeal.τ).loc Cert.FfnSampleRefIdeal.main_arg3) = m ((c.tc : Thread Cert.FfnSampleIdeal.nD Cert.FfnSampleIdeal.τ).loc Cert.FfnSampleIdeal.main_arg3)
      ∧ m' ((c.tc : Thread Cert.FfnSampleRefIdeal.nD Cert.FfnSampleRefIdeal.τ).loc Cert.FfnSampleRefIdeal.main_arg4) = m ((c.tc : Thread Cert.FfnSampleIdeal.nD Cert.FfnSampleIdeal.τ).loc Cert.FfnSampleIdeal.main_arg4)
      ∧ m' ((c.tc : Thread Cert.FfnSampleRefIdeal.nD Cert.FfnSampleRefIdeal.τ).loc Cert.FfnSampleRefIdeal.main_arg5) = m ((c.tc : Thread Cert.FfnSampleIdeal.nD Cert.FfnSampleIdeal.τ).loc Cert.FfnSampleIdeal.main_arg5)) →
    ∃ (v0 : (c : Dev Cert.FfnSampleIdeal.nD) → Buf (Elt Ideal) ((c.tc : Thread Cert.FfnSampleIdeal.nD Cert.FfnSampleIdeal.τ).loc Cert.FfnSampleIdeal.main_v5)),
      θ_run (Cert.FfnSampleIdeal.defs (F := Ideal)) (onTc (τ := Cert.FfnSampleIdeal.τ) (Cert.FfnSampleIdeal.main (F := Ideal))) ⟨m, fun _ => 0, g⟩ (fun r => ∀ c : Dev Cert.FfnSampleIdeal.nD,
          r.2.mem ((c.tc : Thread Cert.FfnSampleIdeal.nD Cert.FfnSampleIdeal.τ).loc Cert.FfnSampleIdeal.main_v5) = v0 c
          ∧ r.2.mem ((c.tc : Thread Cert.FfnSampleIdeal.nD Cert.FfnSampleIdeal.τ).loc Cert.FfnSampleIdeal.main_arg0) = m ((c.tc : Thread Cert.FfnSampleIdeal.nD Cert.FfnSampleIdeal.τ).loc Cert.FfnSampleIdeal.main_arg0)
          ∧ r.2.mem ((c.tc : Thread Cert.FfnSampleIdeal.nD Cert.FfnSampleIdeal.τ).loc Cert.FfnSampleIdeal.main_arg1) = m ((c.tc : Thread Cert.FfnSampleIdeal.nD Cert.FfnSampleIdeal.τ).loc Cert.FfnSampleIdeal.main_arg1)
          ∧ r.2.mem ((c.tc : Thread Cert.FfnSampleIdeal.nD Cert.FfnSampleIdeal.τ).loc Cert.FfnSampleIdeal.main_arg2) = m ((c.tc : Thread Cert.FfnSampleIdeal.nD Cert.FfnSampleIdeal.τ).loc Cert.FfnSampleIdeal.main_arg2)
          ∧ r.2.mem ((c.tc : Thread Cert.FfnSampleIdeal.nD Cert.FfnSampleIdeal.τ).loc Cert.FfnSampleIdeal.main_arg3) = m ((c.tc : Thread Cert.FfnSampleIdeal.nD Cert.FfnSampleIdeal.τ).loc Cert.FfnSampleIdeal.main_arg3)
          ∧ r.2.mem ((c.tc : Thread Cert.FfnSampleIdeal.nD Cert.FfnSampleIdeal.τ).loc Cert.FfnSampleIdeal.main_arg4) = m ((c.tc : Thread Cert.FfnSampleIdeal.nD Cert.FfnSampleIdeal.τ).loc Cert.FfnSampleIdeal.main_arg4)
          ∧ r.2.mem ((c.tc : Thread Cert.FfnSampleIdeal.nD Cert.FfnSampleIdeal.τ).loc Cert.FfnSampleIdeal.main_arg5) = m ((c.tc : Thread Cert.FfnSampleIdeal.nD Cert.FfnSampleIdeal.τ).loc Cert.FfnSampleIdeal.main_arg5))
      ∧ θ_run (Cert.FfnSampleRefIdeal.defs (F := Ideal)) (onTc (τ := Cert.FfnSampleRefIdeal.τ) (Cert.FfnSampleRefIdeal.main (F := Ideal))) ⟨m', fun _ => 0, g'⟩ (fun r => ∀ c : Dev Cert.FfnSampleRefIdeal.nD,
          r.2.mem ((c.tc : Thread Cert.FfnSampleRefIdeal.nD Cert.FfnSampleRefIdeal.τ).loc Cert.FfnSampleRefIdeal.main_v61) = v0 c
          ∧ r.2.mem ((c.tc : Thread Cert.FfnSampleRefIdeal.nD Cert.FfnSampleRefIdeal.τ).loc Cert.FfnSampleRefIdeal.main_arg0) = m' ((c.tc : Thread Cert.FfnSampleRefIdeal.nD Cert.FfnSampleRefIdeal.τ).loc Cert.FfnSampleRefIdeal.main_arg0)
          ∧ r.2.mem ((c.tc : Thread Cert.FfnSampleRefIdeal.nD Cert.FfnSampleRefIdeal.τ).loc Cert.FfnSampleRefIdeal.main_arg1) = m' ((c.tc : Thread Cert.FfnSampleRefIdeal.nD Cert.FfnSampleRefIdeal.τ).loc Cert.FfnSampleRefIdeal.main_arg1)
          ∧ r.2.mem ((c.tc : Thread Cert.FfnSampleRefIdeal.nD Cert.FfnSampleRefIdeal.τ).loc Cert.FfnSampleRefIdeal.main_arg2) = m' ((c.tc : Thread Cert.FfnSampleRefIdeal.nD Cert.FfnSampleRefIdeal.τ).loc Cert.FfnSampleRefIdeal.main_arg2)
          ∧ r.2.mem ((c.tc : Thread Cert.FfnSampleRefIdeal.nD Cert.FfnSampleRefIdeal.τ).loc Cert.FfnSampleRefIdeal.main_arg3) = m' ((c.tc : Thread Cert.FfnSampleRefIdeal.nD Cert.FfnSampleRefIdeal.τ).loc Cert.FfnSampleRefIdeal.main_arg3)
          ∧ r.2.mem ((c.tc : Thread Cert.FfnSampleRefIdeal.nD Cert.FfnSampleRefIdeal.τ).loc Cert.FfnSampleRefIdeal.main_arg4) = m' ((c.tc : Thread Cert.FfnSampleRefIdeal.nD Cert.FfnSampleRefIdeal.τ).loc Cert.FfnSampleRefIdeal.main_arg4)
          ∧ r.2.mem ((c.tc : Thread Cert.FfnSampleRefIdeal.nD Cert.FfnSampleRefIdeal.τ).loc Cert.FfnSampleRefIdeal.main_arg5) = m' ((c.tc : Thread Cert.FfnSampleRefIdeal.nD Cert.FfnSampleRefIdeal.τ).loc Cert.FfnSampleRefIdeal.main_arg5))

def Claim : Prop :=
  ∃ (hAttn : Cert.Attn.Facts) (hAttnIdeal : Cert.AttnIdeal.Facts) (hAttnRefIdeal : Cert.AttnRefIdeal.Facts) (hFfnFinal : Cert.FfnFinal.Facts) (hFfnFinalIdeal : Cert.FfnFinalIdeal.Facts) (hFfnFinalRefIdeal : Cert.FfnFinalRefIdeal.Facts) (hFfn : Cert.Ffn.Facts) (hFfnIdeal : Cert.FfnIdeal.Facts) (hFfnRefIdeal : Cert.FfnRefIdeal.Facts) (hFfnSample : Cert.FfnSample.Facts) (hFfnSampleIdeal : Cert.FfnSampleIdeal.Facts) (hFfnSampleRefIdeal : Cert.FfnSampleRefIdeal.Facts) (hPre_finite_scores : Cert.Pre_finite_scores.Facts),
    quiescent_Attn (hAttn := hAttn)
    ∧ quiescent_AttnIdeal (hAttnIdeal := hAttnIdeal)
    ∧ quiescent_AttnIdeal_pre_finite_scores (hAttnIdeal := hAttnIdeal) (hPre_finite_scores := hPre_finite_scores)
    ∧ quiescent_AttnRefIdeal (hAttnRefIdeal := hAttnRefIdeal)
    ∧ quiescent_AttnRefIdeal_pre_finite_scores (hAttnRefIdeal := hAttnRefIdeal) (hPre_finite_scores := hPre_finite_scores)
    ∧ quiescent_FfnFinal (hFfnFinal := hFfnFinal)
    ∧ quiescent_FfnFinalIdeal (hFfnFinalIdeal := hFfnFinalIdeal)
    ∧ quiescent_FfnFinalRefIdeal (hFfnFinalRefIdeal := hFfnFinalRefIdeal)
    ∧ quiescent_Ffn (hFfn := hFfn)
    ∧ quiescent_FfnIdeal (hFfnIdeal := hFfnIdeal)
    ∧ quiescent_FfnRefIdeal (hFfnRefIdeal := hFfnRefIdeal)
    ∧ quiescent_FfnSample (hFfnSample := hFfnSample)
    ∧ quiescent_FfnSampleIdeal (hFfnSampleIdeal := hFfnSampleIdeal)
    ∧ quiescent_FfnSampleRefIdeal (hFfnSampleRefIdeal := hFfnSampleRefIdeal)
    ∧ preserves_Attn_AttnIdeal
    ∧ algebraic_AttnIdeal_AttnRefIdeal_pre_finite_scores (hAttnIdeal := hAttnIdeal) (hAttnRefIdeal := hAttnRefIdeal) (hPre_finite_scores := hPre_finite_scores)
    ∧ preserves_FfnFinal_FfnFinalIdeal
    ∧ algebraic_FfnFinalIdeal_FfnFinalRefIdeal (hFfnFinalIdeal := hFfnFinalIdeal) (hFfnFinalRefIdeal := hFfnFinalRefIdeal)
    ∧ preserves_Ffn_FfnIdeal
    ∧ algebraic_FfnIdeal_FfnRefIdeal (hFfnIdeal := hFfnIdeal) (hFfnRefIdeal := hFfnRefIdeal)
    ∧ preserves_FfnSample_FfnSampleIdeal
    ∧ algebraic_FfnSampleIdeal_FfnSampleRefIdeal (hFfnSampleIdeal := hFfnSampleIdeal) (hFfnSampleRefIdeal := hFfnSampleRefIdeal)
-- ==== Pre_finite_scores.lean ====
abbrev S8 : Shape := ⟨1, ![8]⟩
abbrev S4x8192x8x64 : Shape := ⟨4, ![4, 8192, 8, 64]⟩
abbrev S4x8192x2x64 : Shape := ⟨4, ![4, 8192, 2, 64]⟩
abbrev S_ : Shape := ⟨0, ![]⟩

class Facts : Prop where
  bcast_S_S8 : S_.BroadcastsInDim S8 (![] : Fin 0 → Fin S8.rank)
  bcast_S_S4x8192x8x64 : S_.BroadcastsInDim S4x8192x8x64 (![] : Fin 0 → Fin S4x8192x8x64.rank)
  bcast_S_S4x8192x2x64 : S_.BroadcastsInDim S4x8192x2x64 (![] : Fin 0 → Fin S4x8192x2x64.rank)

variable [Facts]

def fn {F : FTy → Type} [FloatOps F] (main_arg0 : FVec F S8 .f32) (main_arg1 : FVec F S4x8192x8x64 .f32) (main_arg2 : FVec F S4x8192x2x64 .f32) (main_arg3 : FVec F S4x8192x2x64 .f32) : IVec S8 1 × IVec S4x8192x8x64 1 × IVec S4x8192x2x64 1 :=
  let main_v0 : FVec F S8 .f32 := Host.absf main_arg0
  let main_cst : FVec F S_ .f32 := constant S_ .f32 0x7F800000#32
  let main_v1 : FVec F S8 .f32 := broadcastInDim S8 ![] bcast_S_S8 main_cst
  let main_v2 : IVec S8 1 := cmpf .olt main_v0 main_v1
  let main_v3 : FVec F S4x8192x8x64 .f32 := Host.absf main_arg1
  let main_cst_0 : FVec F S_ .f32 := constant S_ .f32 0x7F800000#32
  let main_v4 : FVec F S4x8192x8x64 .f32 := broadcastInDim S4x8192x8x64 ![] bcast_S_S4x8192x8x64 main_cst_0
  let main_v5 : IVec S4x8192x8x64 1 := cmpf .olt main_v3 main_v4
  let main_v6 : FVec F S4x8192x2x64 .f32 := Host.absf main_arg2
  let main_cst_1 : FVec F S_ .f32 := constant S_ .f32 0x7F800000#32
  let main_v7 : FVec F S4x8192x2x64 .f32 := broadcastInDim S4x8192x2x64 ![] bcast_S_S4x8192x2x64 main_cst_1
  let main_v8 : IVec S4x8192x2x64 1 := cmpf .olt main_v6 main_v7
  (main_v2, main_v5, main_v8)
-- ==== Attn.lean ====
abbrev S8 : Shape := ⟨1, ![8]⟩
abbrev S4x8192x8x64 : Shape := ⟨4, ![4, 8192, 8, 64]⟩
abbrev S4x8192x2x64 : Shape := ⟨4, ![4, 8192, 2, 64]⟩
abbrev S4x8192x512 : Shape := ⟨3, ![4, 8192, 512]⟩
abbrev S4x8192x128 : Shape := ⟨3, ![4, 8192, 128]⟩
abbrev S1x128x512 : Shape := ⟨3, ![1, 128, 512]⟩
abbrev S1x128x128 : Shape := ⟨3, ![1, 128, 128]⟩
abbrev S512x128 : Shape := ⟨2, ![512, 128]⟩
abbrev S512x1 : Shape := ⟨2, ![512, 1]⟩
abbrev S128x512 : Shape := ⟨2, ![128, 512]⟩
abbrev S1x128x64 : Shape := ⟨3, ![1, 128, 64]⟩
abbrev S128x64 : Shape := ⟨2, ![128, 64]⟩
abbrev S512x64 : Shape := ⟨2, ![512, 64]⟩
abbrev S1 : Shape := ⟨1, ![1]⟩
abbrev S512 : Shape := ⟨1, ![512]⟩

abbrev nBuf : Space → Nat
  | .hbm => 8
  | .vmem => 12
  | .smem => 1
  | _ => 0

abbrev bufTy : (tb : Table) → Fin (tcTables nBuf tb) → BufTy
  | .hbm, ⟨0, _⟩ => ⟨S8, .f32⟩
  | .hbm, ⟨1, _⟩ => ⟨S4x8192x8x64, .f32⟩
  | .hbm, ⟨2, _⟩ => ⟨S4x8192x2x64, .f32⟩
  | .hbm, ⟨3, _⟩ => ⟨S4x8192x2x64, .f32⟩
  | .hbm, ⟨4, _⟩ => ⟨S4x8192x512, .f32⟩
  | .hbm, ⟨5, _⟩ => ⟨S4x8192x128, .f32⟩
  | .hbm, ⟨6, _⟩ => ⟨S4x8192x128, .f32⟩
  | .hbm, ⟨7, _⟩ => ⟨S4x8192x512, .f32⟩
  | .local _ .vmem, ⟨0, _⟩ => ⟨S1x128x512, .f32⟩
  | .local _ .vmem, ⟨1, _⟩ => ⟨S1x128x512, .f32⟩
  | .local _ .vmem, ⟨2, _⟩ => ⟨S1x128x128, .f32⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S1x128x512, .f32⟩
  | .local _ .vmem, ⟨11, _⟩ => ⟨S1x128x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 64], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8 : Shape := ⟨1, ![8]⟩
abbrev S4x8192x8x64 : Shape := ⟨4, ![4, 8192, 8, 64]⟩
abbrev S4x8192x2x64 : Shape := ⟨4, ![4, 8192, 2, 64]⟩
abbrev S4x64x128x2x4x64 : Shape := ⟨6, ![4, 64, 128, 2, 4, 64]⟩
abbrev S4x64x128x2x64 : Shape := ⟨5, ![4, 64, 128, 2, 64]⟩
abbrev S64 : Shape := ⟨1, ![64]⟩
abbrev S64x1 : Shape := ⟨2, ![64, 1]⟩
abbrev S_ : Shape := ⟨0, ![]⟩
abbrev S128 : Shape := ⟨1, ![128]⟩
abbrev S1x128 : Shape := ⟨2, ![1, 128]⟩
abbrev S64x128 : Shape := ⟨2, ![64, 128]⟩
abbrev S256 : Shape := ⟨1, ![256]⟩
abbrev S1x256 : Shape := ⟨2, ![1, 256]⟩
abbrev S64x256 : Shape := ⟨2, ![64, 256]⟩
abbrev S64x128x1 : Shape := ⟨3, ![64, 128, 1]⟩
abbrev S64x1x256 : Shape := ⟨3, ![64, 1, 256]⟩
abbrev S64x128x256 : Shape := ⟨3, ![64, 128, 256]⟩
abbrev S1x64x1x1x128x256 : Shape := ⟨6, ![1, 64, 1, 1, 128, 256]⟩
abbrev S4x63x128x2x64 : Shape := ⟨5, ![4, 63, 128, 2, 64]⟩
abbrev S4x64x256x2x64 : Shape := ⟨5, ![4, 64, 256, 2, 64]⟩
abbrev S4x64x2x256x128x4 : Shape := ⟨6, ![4, 64, 2, 256, 128, 4]⟩
abbrev S4x64x2x4x128x256 : Shape := ⟨6, ![4, 64, 2, 4, 128, 256]⟩
abbrev S2x4x1x1 : Shape := ⟨4, ![2, 4, 1, 1]⟩
abbrev S4x64x2x4x128 : Shape := ⟨5, ![4, 64, 2, 4, 128]⟩
abbrev S4x64x2x4x128x1 : Shape := ⟨6, ![4, 64, 2, 4, 128, 1]⟩
abbrev S1x1x2x4x1x1 : Shape := ⟨6, ![1, 1, 2, 4, 1, 1]⟩
abbrev S4x64x2x64x4x128 : Shape := ⟨6, ![4, 64, 2, 64, 4, 128]⟩
abbrev S4x8192x512 : Shape := ⟨3, ![4, 8192, 512]⟩

abbrev nBuf : Space → Nat
  | .hbm => 86
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x8192x8x64, .f32⟩
  | .hbm, ⟨2, _⟩ => ⟨S4x8192x2x64, .f32⟩
  | .hbm, ⟨3, _⟩ => ⟨S4x8192x2x64, .f32⟩
  | .hbm, ⟨4, _⟩ => ⟨S4x64x128x2x4x64, .f32⟩
  | .hbm, ⟨5, _⟩ => ⟨S4x64x128x2x64, .f32⟩
  | .hbm, ⟨6, _⟩ => ⟨S4x64x128x2x64, .f32⟩
  | .hbm, ⟨7, _⟩ => ⟨S64, .i32⟩
  | .hbm, ⟨8, _⟩ => ⟨S64x1, .i32⟩
  | .hbm, ⟨9, _⟩ => ⟨S_, .i32⟩
  | .hbm, ⟨10, _⟩ => ⟨S64x1, .i32⟩
  | .hbm, ⟨11, _⟩ => ⟨S64x1, .i32⟩
  | .hbm, ⟨12, _⟩ => ⟨S128, .i32⟩
  | .hbm, ⟨13, _⟩ => ⟨S1x128, .i32⟩
  | .hbm, ⟨14, _⟩ => ⟨S64x128, .i32⟩
  | .hbm, ⟨15, _⟩ => ⟨S64x128, .i32⟩
  | .hbm, ⟨16, _⟩ => ⟨S64x128, .i32⟩
  | .hbm, ⟨17, _⟩ => ⟨S_, .i32⟩
  | .hbm, ⟨18, _⟩ => ⟨S64x1, .i32⟩
  | .hbm, ⟨19, _⟩ => ⟨S64x1, .i32⟩
  | .hbm, ⟨20, _⟩ => ⟨S256, .i32⟩
  | .hbm, ⟨21, _⟩ => ⟨S1x256, .i32⟩
  | .hbm, ⟨22, _⟩ => ⟨S64x256, .i32⟩
  | .hbm, ⟨23, _⟩ => ⟨S64x256, .i32⟩
  | .hbm, ⟨24, _⟩ => ⟨S64x256, .i32⟩
  | .hbm, ⟨25, _⟩ => ⟨S64x128x1, .i32⟩
  | .hbm, ⟨26, _⟩ => ⟨S64x1x256, .i32⟩
  | .hbm, ⟨27, _⟩ => ⟨S64x128x256, .i32⟩
  | .hbm, ⟨28, _⟩ => ⟨S64x128x256, .i32⟩
  | .hbm, ⟨29, _⟩ => ⟨S64x128x256, .i1⟩
  | .hbm, ⟨30, _⟩ => ⟨S64x128x256, .i32⟩
  | .hbm, ⟨31, _⟩ => ⟨S64x128x256, .i32⟩
  | .hbm, ⟨32, _⟩ => ⟨S64x128x256, .i32⟩
  | .hbm, ⟨33, _⟩ => ⟨S_, .i32⟩
  | .hbm, ⟨34, _⟩ => ⟨S64x128x256, .i32⟩
  | .hbm, ⟨35, _⟩ => ⟨S64x128x256, .i1⟩
  | .hbm, ⟨36, _⟩ => ⟨S64x128x256, .i1⟩
  | .hbm, ⟨37, _⟩ => ⟨S_, .i32⟩
  | .hbm, ⟨38, _⟩ => ⟨S64x1x256, .i32⟩
  | .hbm, ⟨39, _⟩ => ⟨S64x1x256, .i1⟩
  | .hbm, ⟨40, _⟩ => ⟨S64x128x256, .i1⟩
  | .hbm, ⟨41, _⟩ => ⟨S64x128x256, .i1⟩
  | .hbm, ⟨42, _⟩ => ⟨S1x64x1x1x128x256, .i1⟩
  | .hbm, ⟨43, _⟩ => ⟨S4x63x128x2x64, .f32⟩
  | .hbm, ⟨44, _⟩ => ⟨S_, .i32⟩
  | .hbm, ⟨45, _⟩ => ⟨S_, .f32⟩
  | .hbm, ⟨46, _⟩ => ⟨S4x64x128x2x64, .f32⟩
  | .hbm, ⟨47, _⟩ => ⟨S4x64x256x2x64, .f32⟩
  | .hbm, ⟨48, _⟩ => ⟨S4x63x128x2x64, .f32⟩
  | .hbm, ⟨49, _⟩ => ⟨S_, .i32⟩
  | .hbm, ⟨50, _⟩ => ⟨S_, .f32⟩
  | .hbm, ⟨51, _⟩ => ⟨S4x64x128x2x64, .f32⟩
  | .hbm, ⟨52, _⟩ => ⟨S4x64x256x2x64, .f32⟩
  | .hbm, ⟨53, _⟩ => ⟨S4x64x2x256x128x4, .f32⟩
  | .hbm, ⟨54, _⟩ => ⟨S4x64x2x4x128x256, .f32⟩
  | .hbm, ⟨55, _⟩ => ⟨S_, .f32⟩
  | .hbm, ⟨56, _⟩ => ⟨S4x64x2x4x128x256, .f32⟩
  | .hbm, ⟨57, _⟩ => ⟨S4x64x2x4x128x256, .f32⟩
  | .hbm, ⟨58, _⟩ => ⟨S_, .f32⟩
  | .hbm, ⟨59, _⟩ => ⟨S_, .f32⟩
  | .hbm, ⟨60, _⟩ => ⟨S4x64x2x4x128x256, .i1⟩
  | .hbm, ⟨61, _⟩ => ⟨S4x64x2x4x128x256, .f32⟩
  | .hbm, ⟨62, _⟩ => ⟨S4x64x2x4x128x256, .f32⟩
  | .hbm, ⟨63, _⟩ => ⟨S2x4x1x1, .f32⟩
  | .hbm, ⟨64, _⟩ => ⟨S_, .f32⟩
  | .hbm, ⟨65, _⟩ => ⟨S4x64x2x4x128, .f32⟩
  | .hbm, ⟨66, _⟩ => ⟨S4x64x2x4x128x1, .f32⟩
  | .hbm, ⟨67, _⟩ => ⟨S1x1x2x4x1x1, .f32⟩
  | .hbm, ⟨68, _⟩ => ⟨S4x64x2x4x128x1, .f32⟩
  | .hbm, ⟨69, _⟩ => ⟨S4x64x2x4x128x1, .f32⟩
  | .hbm, ⟨70, _⟩ => ⟨S4x64x2x4x128x256, .f32⟩
  | .hbm, ⟨71, _⟩ => ⟨S4x64x2x4x128x256, .f32⟩
  | .hbm, ⟨72, _⟩ => ⟨S4x64x2x4x128x256, .f32⟩
  | .hbm, ⟨73, _⟩ => ⟨S_, .f32⟩
  | .hbm, ⟨74, _⟩ => ⟨S4x64x2x4x128, .f32⟩
  | .hbm, ⟨75, _⟩ => ⟨S4x64x2x4x128x1, .f32⟩
  | .hbm, ⟨76, _⟩ => ⟨S1x1x2x4x1x1, .f32⟩
  | .hbm, ⟨77, _⟩ => ⟨S4x64x2x4x128x1, .f32⟩
  | .hbm, ⟨78, _⟩ => ⟨S4x64x2x4x128x1, .f32⟩
  | .hbm, ⟨79, _⟩ => ⟨S4x64x2x4x128x1, .f32⟩
  | .hbm, ⟨80, _⟩ => ⟨S4x64x2x4x128x1, .f32⟩
  | .hbm, ⟨81, _⟩ => ⟨S4x64x2x4x128x256, .f32⟩
  | .hbm, ⟨82, _⟩ => ⟨S4x64x2x4x128x256, .f32⟩
  | .hbm, ⟨83, _⟩ => ⟨S4x64x2x64x4x128, .f32⟩
  | .hbm, ⟨84, _⟩ => ⟨S4x64x128x2x4x64, .f32⟩
  | .hbm, ⟨85, _⟩ => ⟨S4x8192x512, .f32⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_c_1 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c_2 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_c_3 : Ref sig .tc := ⟨.hbm, 44, rfl⟩
abbrev main_call0_v0 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_4 : Ref sig .tc := ⟨.hbm, 49, rfl⟩
abbrev main_call1_v0 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst : Ref sig .tc := ⟨.hbm, 55, rfl⟩
abbrev main_v43 : Ref sig .tc := ⟨.hbm, 56, rfl⟩
abbrev main_v44 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v45 : Ref sig .tc := ⟨.hbm, 62, rfl⟩
abbrev main_v46 : Ref sig .tc := ⟨.hbm, 63, rfl⟩
abbrev main_cst_6 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩

abbrev nD : Nat := 1
abbrev τ : Topo := Topo.v7x

variable {F : FTy → Type} [FloatOps F]
-- ==== FfnFinal.lean ====
abbrev S4x8192x1024 : Shape := ⟨3, ![4, 8192, 1024]⟩
abbrev S4x9216 : Shape := ⟨2, ![4, 9216]⟩
abbrev S1024 : Shape := ⟨1, ![1024]⟩
abbrev S1024x5632 : Shape := ⟨2, ![1024, 5632]⟩
abbrev S2816x1024 : Shape := ⟨2, ![2816, 1024]⟩
abbrev S4x1x9216 : Shape := ⟨3, ![4, 1, 9216]⟩
abbrev S1x1x1024 : Shape := ⟨3, ![1, 1, 1024]⟩
abbrev S1x512x1024 : Shape := ⟨3, ![1, 512, 1024]⟩
abbrev S512x1024 : Shape := ⟨2, ![512, 1024]⟩
abbrev S1x512 : Shape := ⟨2, ![1, 512]⟩
abbrev S1x512x1 : Shape := ⟨3, ![1, 512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x1x9216, .f32⟩
  | .hbm, ⟨7, _⟩ => ⟨S1x1x1024, .f32⟩
  | .hbm, ⟨8, _⟩ => ⟨S1024x5632, .bf16⟩
  | .hbm, ⟨9, _⟩ => ⟨S2816x1024, .bf16⟩
  | .hbm, ⟨10, _⟩ => ⟨S1x1x1024, .f32⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnFinalRefIdeal.lean ====
abbrev S4x8192x1024 : Shape := ⟨3, ![4, 8192, 1024]⟩
abbrev S4x9216 : Shape := ⟨2, ![4, 9216]⟩
abbrev S1024 : Shape := ⟨1, ![1024]⟩
abbrev S1024x5632 : Shape := ⟨2, ![1024, 5632]⟩
abbrev S2816x1024 : Shape := ⟨2, ![2816, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 84
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x9x1x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S4x1x1x1024, .f32⟩
  | .hbm, ⟨18, _⟩ => ⟨S4x1x1024, .f32⟩
  | .hbm, ⟨19, _⟩ => ⟨S4x1x1x1024, .f32⟩
  | .hbm, ⟨20, _⟩ => ⟨S4x1x1024, .f32⟩
  | .hbm, ⟨21, _⟩ => ⟨S4x1x1x1024, .f32⟩
  | .hbm, ⟨22, _⟩ => ⟨S4x1x1024, .f32⟩
  | .hbm, ⟨23, _⟩ => ⟨S4x1x1x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x5632, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | .hbm, ⟨68, _⟩ => ⟨S4x8192x1024, .f32⟩
  | .hbm, ⟨69, _⟩ => ⟨S_, .f32⟩
  | .hbm, ⟨70, _⟩ => ⟨S4x8192, .f32⟩
  | .hbm, ⟨71, _⟩ => ⟨S4x8192x1, .f32⟩
  | .hbm, ⟨72, _⟩ => ⟨S_, .f32⟩
  | .hbm, ⟨73, _⟩ => ⟨S4x8192x1, .f32⟩
  | .hbm, ⟨74, _⟩ => ⟨S4x8192x1, .f32⟩
  | .hbm, ⟨75, _⟩ => ⟨S_, .f32⟩
  | .hbm, ⟨76, _⟩ => ⟨S4x8192x1, .f32⟩
  | .hbm, ⟨77, _⟩ => ⟨S4x8192x1, .f32⟩
  | .hbm, ⟨78, _⟩ => ⟨S4x8192x1, .f32⟩
  | .hbm, ⟨79, _⟩ => ⟨S4x8192x1024, .f32⟩
  | .hbm, ⟨80, _⟩ => ⟨S4x8192x1024, .f32⟩
  | .hbm, ⟨81, _⟩ => ⟨S1x1x1024, .f32⟩
  | .hbm, ⟨82, _⟩ => ⟨S4x8192x1024, .f32⟩
  | .hbm, ⟨83, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_4 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Ffn.lean ====
abbrev S4x8192x1024 : Shape := ⟨3, ![4, 8192, 1024]⟩
abbrev S4x9216 : Shape := ⟨2, ![4, 9216]⟩
abbrev S1024 : Shape := ⟨1, ![1024]⟩
abbrev S1024x5632 : Shape := ⟨2, ![1024, 5632]⟩
abbrev S2816x1024 : Shape := ⟨2, ![2816, 1024]⟩
abbrev S4x1x9216 : Shape := ⟨3, ![4, 1, 9216]⟩
abbrev S1x1x1024 : Shape := ⟨3, ![1, 1, 1024]⟩
abbrev S1x512x1024 : Shape := ⟨3, ![1, 512, 1024]⟩
abbrev S512x1024 : Shape := ⟨2, ![512, 1024]⟩
abbrev S1x512 : Shape := ⟨2, ![1, 512]⟩
abbrev S1x512x1 : Shape := ⟨3, ![1, 512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x1x9216, .f32⟩
  | .hbm, ⟨7, _⟩ => ⟨S1x1x1024, .f32⟩
  | .hbm, ⟨8, _⟩ => ⟨S1024x5632, .bf16⟩
  | .hbm, ⟨9, _⟩ => ⟨S2816x1024, .bf16⟩
  | .hbm, ⟨10, _⟩ => ⟨S1x1x1024, .f32⟩
  | .hbm, ⟨11, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1x1024, .f32⟩
  | .local _ .vmem, ⟨12, _⟩ => ⟨S1x512x1024, .f32⟩
  | .local _ .vmem, ⟨13, _⟩ => ⟨S1x512x1024, .f32⟩
  | .local _ .vmem, ⟨14, _⟩ => ⟨S512x1024, .bf16⟩
  | .local _ .vmem, ⟨15, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c2_i32 : BitVec 32 := 2#32
  let c0_i32_0 : BitVec 32 := 0#32
  ![arg0.toNat, c0_i32.toNat, c2_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnRefIdeal.lean ====
abbrev S4x8192x1024 : Shape := ⟨3, ![4, 8192, 1024]⟩
abbrev S4x9216 : Shape := ⟨2, ![4, 9216]⟩
abbrev S1024 : Shape := ⟨1, ![1024]⟩
abbrev S1024x5632 : Shape := ⟨2, ![1024, 5632]⟩
abbrev S2816x1024 : Shape := ⟨2, ![2816, 1024]⟩
abbrev S4x9x1x1024 : Shape := ⟨4, ![4, 9, 1, 1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

abbrev nBuf : Space → Nat
  | .hbm => 68
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S4x9x1x1024, .f32⟩
  | .hbm, ⟨7, _⟩ => ⟨S4x1x1x1024, .f32⟩
  | .hbm, ⟨8, _⟩ => ⟨S4x1x1024, .f32⟩
  | .hbm, ⟨9, _⟩ => ⟨S4x1x1x1024, .f32⟩
  | .hbm, ⟨10, _⟩ => ⟨S4x1x1024, .f32⟩
  | .hbm, ⟨11, _⟩ => ⟨S4x1x1x1024, .f32⟩
  | .hbm, ⟨12, _⟩ => ⟨S4x1x1024, .f32⟩
  | .hbm, ⟨13, _⟩ => ⟨S4x1x1x1024, .f32⟩
  | .hbm, ⟨14, _⟩ => ⟨S4x1x1024, .f32⟩
  | .hbm, ⟨15, _⟩ => ⟨S4x1x1x1024, .f32⟩
  | .hbm, ⟨16, _⟩ => ⟨S4x1x1024, .f32⟩
  | .hbm, ⟨17, _⟩ => ⟨S4x1x1x1024, .f32⟩
  | .hbm, ⟨18, _⟩ => ⟨S4x1x1024, .f32⟩
  | .hbm, ⟨19, _⟩ => ⟨S4x1x1x1024, .f32⟩
  | .hbm, ⟨20, _⟩ => ⟨S4x1x1024, .f32⟩
  | .hbm, ⟨21, _⟩ => ⟨S4x1x1x1024, .f32⟩
  | .hbm, ⟨22, _⟩ => ⟨S4x1x1024, .f32⟩
  | .hbm, ⟨23, _⟩ => ⟨S4x1x1x1024, .f32⟩
  | .hbm, ⟨24, _⟩ => ⟨S4x1x1024, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S4x8192x1024, .f32⟩
  | .hbm, ⟨29, _⟩ => ⟨S_, .f32⟩
  | .hbm, ⟨30, _⟩ => ⟨S4x8192, .f32⟩
  | .hbm, ⟨31, _⟩ => ⟨S4x8192x1, .f32⟩
  | .hbm, ⟨32, _⟩ => ⟨S_, .f32⟩
  | .hbm, ⟨33, _⟩ => ⟨S4x8192x1, .f32⟩
  | .hbm, ⟨34, _⟩ => ⟨S4x8192x1, .f32⟩
  | .hbm, ⟨35, _⟩ => ⟨S_, .f32⟩
  | .hbm, ⟨36, _⟩ => ⟨S4x8192x1, .f32⟩
  | .hbm, ⟨37, _⟩ => ⟨S4x8192x1, .f32⟩
  | .hbm, ⟨38, _⟩ => ⟨S4x8192x1, .f32⟩
  | .hbm, ⟨39, _⟩ => ⟨S4x8192x1024, .f32⟩
  | .hbm, ⟨40, _⟩ => ⟨S4x8192x1024, .f32⟩
  | .hbm, ⟨41, _⟩ => ⟨S1x1x1024, .f32⟩
  | .hbm, ⟨42, _⟩ => ⟨S4x8192x1024, .f32⟩
  | .hbm, ⟨43, _⟩ => ⟨S4x8192x1024, .f32⟩
  | .hbm, ⟨44, _⟩ => ⟨S_, .f32⟩
  | .hbm, ⟨45, _⟩ => ⟨S4x1x1024, .f32⟩
  | .hbm, ⟨46, _⟩ => ⟨S4x1x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S4x8192x5632, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x2816, .f32⟩
  | .hbm, ⟨56, _⟩ => ⟨S_, .f32⟩
  | .hbm, ⟨57, _⟩ => ⟨S4x8192x2816, .f32⟩
  | .hbm, ⟨58, _⟩ => ⟨S4x8192x2816, .f32⟩
  | .hbm, ⟨59, _⟩ => ⟨S_, .f32⟩
  | .hbm, ⟨60, _⟩ => ⟨S4x8192x2816, .f32⟩
  | .hbm, ⟨61, _⟩ => ⟨S4x8192x2816, .f32⟩
  | .hbm, ⟨62, _⟩ => ⟨S4x8192x2816, .f32⟩
  | .hbm, ⟨63, _⟩ => ⟨S4x8192x2816, .f32⟩
  | .hbm, ⟨64, _⟩ => ⟨S4x8192x1024, .f32⟩
  | .hbm, ⟨65, _⟩ => ⟨S4x8192x1024, .f32⟩
  | .hbm, ⟨66, _⟩ => ⟨S4x8192x1024, .f32⟩
  | .hbm, ⟨67, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩

abbrev nD : Nat := 1
abbrev τ : Topo := Topo.v7x

variable {F : FTy → Type} [FloatOps F]
-- ==== FfnSample.lean ====
abbrev S128x8x1024 : Shape := ⟨3, ![128, 8, 1024]⟩
abbrev S128x9216 : Shape := ⟨2, ![128, 9216]⟩
abbrev S1024 : Shape := ⟨1, ![1024]⟩
abbrev S1024x5632 : Shape := ⟨2, ![1024, 5632]⟩
abbrev S2816x1024 : Shape := ⟨2, ![2816, 1024]⟩
abbrev S128x1x9216 : Shape := ⟨3, ![128, 1, 9216]⟩
abbrev S1x1x1024 : Shape := ⟨3, ![1, 1, 1024]⟩
abbrev S64x8x1024 : Shape := ⟨3, ![64, 8, 1024]⟩
abbrev S64x1x1024 : Shape := ⟨3, ![64, 1, 1024]⟩
abbrev S512x1024 : Shape := ⟨2, ![512, 1024]⟩
abbrev S64x8 : Shape := ⟨2, ![64, 8]⟩
abbrev S64x8x1 : Shape := ⟨3, ![64, 8, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S128x8x1024, .f32⟩
  | .hbm, ⟨1, _⟩ => ⟨S128x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S128x1x9216, .f32⟩
  | .hbm, ⟨7, _⟩ => ⟨S1x1x1024, .f32⟩
  | .hbm, ⟨8, _⟩ => ⟨S1024x5632, .bf16⟩
  | .hbm, ⟨9, _⟩ => ⟨S2816x1024, .bf16⟩
  | .hbm, ⟨10, _⟩ => ⟨S1x1x1024, .f32⟩
  | .hbm, ⟨11, _⟩ => ⟨S128x8x1024, .f32⟩
  | .local _ .vmem, ⟨0, _⟩ => ⟨S64x8x1024, .f32⟩
  | .local _ .vmem, ⟨1, _⟩ => ⟨S64x8x1024, .f32⟩
  | .local _ .vmem, ⟨2, _⟩ => ⟨S64x1x1024, .f32⟩
  | .local _ .vmem, ⟨3, _⟩ => ⟨S64x1x1024, .f32⟩
  | .local _ .vmem, ⟨4, _⟩ => ⟨S64x1x1024, .f32⟩
  | .local _ .vmem, ⟨5, _⟩ => ⟨S64x1x1024, .f32⟩
  | .local _ .vmem, ⟨6, _⟩ => ⟨S64x1x1024, .f32⟩
  | .local _ .vmem, ⟨7, _⟩ => ⟨S64x1x1024, .f32⟩
  | .local _ .vmem, ⟨8, _⟩ => ⟨S1x1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1x1024, .f32⟩
  | .local _ .vmem, ⟨12, _⟩ => ⟨S64x8x1024, .f32⟩
  | .local _ .vmem, ⟨13, _⟩ => ⟨S64x8x1024, .f32⟩
  | .local _ .vmem, ⟨14, _⟩ => ⟨S512x1024, .bf16⟩
  | .local _ .vmem, ⟨15, _⟩ => ⟨S512x1024, .f32⟩
  | _, _ => ⟨S128x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c6_i32 : BitVec 32 := 6#32
  let c0_i32_0 : BitVec 32 := 0#32
  ![arg0.toNat, c0_i32.toNat, c6_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c7_i32 : BitVec 32 := 7#32
  let c0_i32_0 : BitVec 32 := 0#32
  ![arg0.toNat, c0_i32.toNat, c7_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S64x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S64x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S64x8x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== FfnSampleRefIdeal.lean ====
abbrev S128x8x1024 : Shape := ⟨3, ![128, 8, 1024]⟩
abbrev S128x9216 : Shape := ⟨2, ![128, 9216]⟩
abbrev S1024 : Shape := ⟨1, ![1024]⟩
abbrev S1024x5632 : Shape := ⟨2, ![1024, 5632]⟩
abbrev S2816x1024 : Shape := ⟨2, ![2816, 1024]⟩
abbrev S128x9x1x1024 : Shape := ⟨4, ![128, 9, 1, 1024]⟩
abbrev S128x1x1x1024 : Shape := ⟨4, ![128, 1, 1, 1024]⟩
abbrev S128x1x1024 : Shape := ⟨3, ![128, 1, 1024]⟩
abbrev S_ : Shape := ⟨0, ![]⟩
abbrev S128x8 : Shape := ⟨2, ![128, 8]⟩
abbrev S128x8x1 : Shape := ⟨3, ![128, 8, 1]⟩
abbrev S1x1x1024 : Shape := ⟨3, ![1, 1, 1024]⟩
abbrev S128x8x5632 : Shape := ⟨3, ![128, 8, 5632]⟩
abbrev S128x8x2816 : Shape := ⟨3, ![128, 8, 2816]⟩

abbrev nBuf : Space → Nat
  | .hbm => 84
  | .vmem => 0
  | .smem => 0
  | _ => 0

abbrev bufTy : (tb : Table) → Fin (tcTables nBuf tb) → BufTy
  | .hbm, ⟨0, _⟩ => ⟨S128x8x1024, .f32⟩
  | .hbm, ⟨1, _⟩ => ⟨S128x9216, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S1024, .f32⟩
  | .hbm, ⟨6, _⟩ => ⟨S128x9x1x1024, .f32⟩
  | .hbm, ⟨7, _⟩ => ⟨S128x1x1x1024, .f32⟩
  | .hbm, ⟨8, _⟩ => ⟨S128x1x1024, .f32⟩
  | .hbm, ⟨9, _⟩ => ⟨S128x1x1x1024, .f32⟩
  | .hbm, ⟨10, _⟩ => ⟨S128x1x1024, .f32⟩
  | .hbm, ⟨11, _⟩ => ⟨S128x1x1x1024, .f32⟩
  | .hbm, ⟨12, _⟩ => ⟨S128x1x1024, .f32⟩
  | .hbm, ⟨13, _⟩ => ⟨S128x1x1x1024, .f32⟩
  | .hbm, ⟨14, _⟩ => ⟨S128x1x1024, .f32⟩
  | .hbm, ⟨15, _⟩ => ⟨S128x1x1x1024, .f32⟩
  | .hbm, ⟨16, _⟩ => ⟨S128x1x1024, .f32⟩
  | .hbm, ⟨17, _⟩ => ⟨S128x1x1x1024, .f32⟩
  | .hbm, ⟨18, _⟩ => ⟨S128x1x1024, .f32⟩
  | .hbm, ⟨19, _⟩ => ⟨S128x1x1x1024, .f32⟩
  | .hbm, ⟨20, _⟩ => ⟨S128x1x1024, .f32⟩
  | .hbm, ⟨21, _⟩ => ⟨S128x1x1x1024, .f32⟩
  | .hbm, ⟨22, _⟩ => ⟨S128x1x1024, .f32⟩
  | .hbm, ⟨23, _⟩ => ⟨S128x1x1x1024, .f32⟩
  | .hbm, ⟨24, _⟩ => ⟨S128x1x1024, .f32⟩
  | .hbm, ⟨25, _⟩ => ⟨S_, .f32⟩
  | .hbm, ⟨26, _⟩ => ⟨S128x1x1024, .f32⟩
  | .hbm, ⟨27, _⟩ => ⟨S128x1x1024, .f32⟩
  | .hbm, ⟨28, _⟩ => ⟨S128x8x1024, .f32⟩
  | .hbm, ⟨29, _⟩ => ⟨S_, .f32⟩
  | .hbm, ⟨30, _⟩ => ⟨S128x8, .f32⟩
  | .hbm, ⟨31, _⟩ => ⟨S128x8x1, .f32⟩
  | .hbm, ⟨32, _⟩ => ⟨S_, .f32⟩
  | .hbm, ⟨33, _⟩ => ⟨S128x8x1, .f32⟩
  | .hbm, ⟨34, _⟩ => ⟨S128x8x1, .f32⟩
  | .hbm, ⟨35, _⟩ => ⟨S_, .f32⟩
  | .hbm, ⟨36, _⟩ => ⟨S128x8x1, .f32⟩
  | .hbm, ⟨37, _⟩ => ⟨S128x8x1, .f32⟩
  | .hbm, ⟨38, _⟩ => ⟨S128x8x1, .f32⟩
  | .hbm, ⟨39, _⟩ => ⟨S128x8x1024, .f32⟩
  | .hbm, ⟨40, _⟩ => ⟨S128x8x1024, .f32⟩
  | .hbm, ⟨41, _⟩ => ⟨S1x1x1024, .f32⟩
  | .hbm, ⟨42, _⟩ => ⟨S128x8x1024, .f32⟩
  | .hbm, ⟨43, _⟩ => ⟨S128x8x1024, .f32⟩
  | .hbm, ⟨44, _⟩ => ⟨S_, .f32⟩
  | .hbm, ⟨45, _⟩ => ⟨S128x1x1024, .f32⟩
  | .hbm, ⟨46, _⟩ => ⟨S128x1x1024, .f32⟩
  | .hbm, ⟨47, _⟩ => ⟨S128x8x1024, .f32⟩
  | .hbm, ⟨48, _⟩ => ⟨S128x8x1024, .f32⟩
  | .hbm, ⟨49, _⟩ => ⟨S128x8x1024, .f32⟩
  | .hbm, ⟨50, _⟩ => ⟨S128x8x1024, .f32⟩
  | .hbm, ⟨51, _⟩ => ⟨S128x8x5632, .f32⟩
  | .hbm, ⟨52, _⟩ => ⟨S128x8x2816, .f32⟩
  | .hbm, ⟨53, _⟩ => ⟨S128x8x2816, .f32⟩
  | .hbm, ⟨54, _⟩ => ⟨S128x8x2816, .f32⟩
  | .hbm, ⟨55, _⟩ => ⟨S128x8x2816, .f32⟩
  | .hbm, ⟨56, _⟩ => ⟨S_, .f32⟩
  | .hbm, ⟨57, _⟩ => ⟨S128x8x2816, .f32⟩
  | .hbm, ⟨58, _⟩ => ⟨S128x8x2816, .f32⟩
  | .hbm, ⟨59, _⟩ => ⟨S_, .f32⟩
  | .hbm, ⟨60, _⟩ => ⟨S128x8x2816, .f32⟩
  | .hbm, ⟨61, _⟩ => ⟨S128x8x2816, .f32⟩
  | .hbm, ⟨62, _⟩ => ⟨S128x8x2816, .f32⟩
  | .hbm, ⟨63, _⟩ => ⟨S128x8x2816, .f32⟩
  | .hbm, ⟨64, _⟩ => ⟨S128x8x1024, .f32⟩
  | .hbm, ⟨65, _⟩ => ⟨S128x8x1024, .f32⟩
  | .hbm, ⟨66, _⟩ => ⟨S128x8x1024, .f32⟩
  | .hbm, ⟨67, _⟩ => ⟨S128x8x1024, .f32⟩
  | .hbm, ⟨68, _⟩ => ⟨S128x8x1024, .f32⟩
  | .hbm, ⟨69, _⟩ => ⟨S_, .f32⟩
  | .hbm, ⟨70, _⟩ => ⟨S128x8, .f32⟩
  | .hbm, ⟨71, _⟩ => ⟨S128x8x1, .f32⟩
  | .hbm, ⟨72, _⟩ => ⟨S_, .f32⟩
  | .hbm, ⟨73, _⟩ => ⟨S128x8x1, .f32⟩
  | .hbm, ⟨74, _⟩ => ⟨S128x8x1, .f32⟩
  | .hbm, ⟨75, _⟩ => ⟨S_, .f32⟩
  | .hbm, ⟨76, _⟩ => ⟨S128x8x1, .f32⟩
  | .hbm, ⟨77, _⟩ => ⟨S128x8x1, .f32⟩
  | .hbm, ⟨78, _⟩ => ⟨S128x8x1, .f32⟩
  | .hbm, ⟨79, _⟩ => ⟨S128x8x1024, .f32⟩
  | .hbm, ⟨80, _⟩ => ⟨S128x8x1024, .f32⟩
  | .hbm, ⟨81, _⟩ => ⟨S1x1x1024, .f32⟩
  | .hbm, ⟨82, _⟩ => ⟨S128x8x1024, .f32⟩
  | .hbm, ⟨83, _⟩ => ⟨S128x8x1024, .f32⟩
  | _, _ => ⟨S128x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_0 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_3 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_call0_v0 : Ref sig .tc := ⟨.hbm, 54, rfl⟩
abbrev main_call0_v1 : Ref sig .tc := ⟨.hbm, 55, rfl⟩
abbrev main_call0_cst : Ref sig .tc := ⟨.hbm, 56, rfl⟩
abbrev main_call0_v2 : Ref sig .tc := ⟨.hbm, 57, rfl⟩
abbrev main_call0_v3 : Ref sig .tc := ⟨.hbm, 58, rfl⟩
abbrev main_call0_cst_0 : Ref sig .tc := ⟨.hbm, 59, rfl⟩
abbrev main_call0_v4 : Ref sig .tc := ⟨.hbm, 60, rfl⟩
abbrev main_call0_v5 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_4 : Ref sig .tc := ⟨.hbm, 69, rfl⟩
abbrev main_v50 : Ref sig .tc := ⟨.hbm, 70, rfl⟩
abbrev main_v51 : Ref sig .tc := ⟨.hbm, 71, rfl⟩
abbrev main_cst_5 : Ref sig .tc := ⟨.hbm, 72, rfl⟩
abbrev main_v52 : Ref sig .tc := ⟨.hbm, 73, rfl⟩
abbrev main_v53 : Ref sig .tc := ⟨.hbm, 74, rfl⟩
abbrev main_cst_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== Proof.AttnMath.lean ====
module

public import Idealize.ShloMosaic.PureOps.Ideal.Laws
public import Idealize.ShloMosaic.Lib.Pointwise

@[expose] public section

noncomputable section

/-! # Sink attention of one query over two windows of keys, on the extended reals -/

namespace AttnMath

open Idealize.ShloMosaic

/-- The scaled inner product of a query and a key; the scale is the word of 1/8. -/
def score (q k : Fin 64 → EReal) : EReal :=
  (∑ e, q e * k e) * Ideal.ofBits .f32 0x3E000000#32

/-- The largest of the scores of two windows and of the sink. -/
def peak (s₀ s₁ : Fin 128 → EReal) (sink : EReal) : EReal :=
  max (max (Finset.univ.fold max ⊥ s₀) (Finset.univ.fold max ⊥ s₁)) sink

/-- The softmax's denominator: the weights of both windows and of the sink. -/
def total (s₀ s₁ : Fin 128 → EReal) (sink : EReal) : EReal :=
  ∑ j, Ideal.exp (s₀ j - peak s₀ s₁ sink) + ∑ j, Ideal.exp (s₁ j - peak s₀ s₁ sink)
    + Ideal.exp (sink - peak s₀ s₁ sink)

/-- One element of the attention's result: the values of both windows, weighted, the weights times the reciprocal
    of the denominator. -/
def cell (s₀ s₁ : Fin 128 → EReal) (sink : EReal) (v₀ v₁ : Fin 128 → EReal) : EReal :=
  ∑ j, Ideal.exp (s₀ j - peak s₀ s₁ sink) * Ideal.div 1 (total s₀ s₁ sink) * v₀ j
    + ∑ j, Ideal.exp (s₁ j - peak s₀ s₁ sink) * Ideal.div 1 (total s₀ s₁ sink) * v₁ j

/-- The word of −∞ denotes `⊥`. -/
theorem negInf : Ideal.ofBits .f32 0xFF800000#32 = (⊥ : EReal) := by
  simp [Ideal.ofBits, Ideal.ieee]

/-- The word of +∞ denotes `⊤`. -/
theorem posInf : Ideal.ofBits .f32 0x7F800000#32 = (⊤ : EReal) := by
  simp [Ideal.ofBits, Ideal.ieee]

/-- The scale's word denotes a real. -/
theorem scale_real : ∃ r : ℝ, Ideal.ofBits .f32 0x3E000000#32 = (r : EReal) := by
  simp [Ideal.ofBits, Ideal.ieee]
  exact ⟨_, rfl⟩

/-- The element in the reference's form: one window of 256 keys, each weight divided by the denominator. -/
def whole (s : Fin 256 → EReal) (sink : EReal) (v : Fin 256 → EReal) : EReal :=
  ∑ k, v k * Ideal.div (Ideal.exp (s k - max (Finset.univ.fold max ⊥ s) sink))
    (∑ k, Ideal.exp (s k - max (Finset.univ.fold max ⊥ s) sink) + Ideal.exp (sink - max (Finset.univ.fold max ⊥ s) sink))

/-- A score is masked or a real. -/
def Masked (x : EReal) : Prop := x = ⊥ ∨ ∃ r : ℝ, x = (r : EReal)

/-- The largest of 256 scores is the larger of the two halves' largest. -/
theorem fold_halves (s : Fin 256 → EReal) (s₀ s₁ : Fin 128 → EReal)
    (h₀ : ∀ j : Fin 128, s ⟨j.val, by omega⟩ = s₀ j) (h₁ : ∀ j : Fin 128, s ⟨128 + j.val, by omega⟩ = s₁ j) :
    Finset.univ.fold max ⊥ s = max (Finset.univ.fold max ⊥ s₀) (Finset.univ.fold max ⊥ s₁) := by
  apply le_antisymm
  · refine Finset.fold_max_le _ |>.2 ⟨bot_le, fun k _ => ?_⟩
    rcases Nat.lt_or_ge k.val 128 with hk | hk
    · refine le_max_of_le_left (Finset.le_fold_max _ |>.2 (Or.inr ⟨⟨k.val, hk⟩, Finset.mem_univ _, ?_⟩))
      exact (h₀ ⟨k.val, hk⟩).le
    · refine le_max_of_le_right (Finset.le_fold_max _ |>.2 (Or.inr ⟨⟨k.val - 128, by omega⟩, Finset.mem_univ _, ?_⟩))
      rw [← h₁]
      exact (congrArg s (Fin.ext (by show k.val = 128 + (k.val - 128); omega))).le
  · refine max_le (Finset.fold_max_le _ |>.2 ⟨bot_le, fun k _ => ?_⟩) (Finset.fold_max_le _ |>.2 ⟨bot_le, fun k _ => ?_⟩)
    · exact Finset.le_fold_max _ |>.2 (Or.inr ⟨_, Finset.mem_univ _, (h₀ k).ge⟩)
    · exact Finset.le_fold_max _ |>.2 (Or.inr ⟨_, Finset.mem_univ _, (h₁ k).ge⟩)

/-- The largest of masked or real scores is masked or real. -/
theorem fold_masked {n : ℕ} (s : Fin n → EReal) (h : ∀ j, Masked (s j)) : Masked (Finset.univ.fold max ⊥ s) := by
  induction (Finset.univ : Finset (Fin n)) using Finset.induction_on with
  | empty => exact Or.inl rfl
  | insert a t ha ih =>
    rw [Finset.fold_insert ha]
    rcases max_choice (s a) (t.fold max ⊥ s) with e | e <;> rw [e]
    · exact h a
    · exact ih

/-- With a real sink the peak is real. -/
theorem peak_real (s₀ s₁ : Fin 128 → EReal) (h₀ : ∀ j, Masked (s₀ j)) (h₁ : ∀ j, Masked (s₁ j)) (k : ℝ) :
    ∃ p : ℝ, peak s₀ s₁ (k : EReal) = (p : EReal) := by
  have key : ∀ x : EReal, Masked x → ∃ p : ℝ, max x (k : EReal) = (p : EReal) := by
    rintro x (rfl | ⟨r, rfl⟩)
    · exact ⟨k, max_eq_right bot_le⟩
    · rcases max_choice (r : EReal) (k : EReal) with e | e
      · exact ⟨r, e⟩
      · exact ⟨k, e⟩
  refine key _ ?_
  rcases max_choice (Finset.univ.fold max ⊥ s₀) (Finset.univ.fold max ⊥ s₁) with e | e <;> rw [e]
  · exact fold_masked s₀ h₀
  · exact fold_masked s₁ h₁

/-- The weight of a masked or real score is a real that isn't negative. -/
theorem weight_real (x : EReal) (h : Masked x) (p : ℝ) : ∃ w : ℝ, 0 ≤ w ∧ Ideal.exp (x - (p : EReal)) = (w : EReal) := by
  rcases h with rfl | ⟨r, rfl⟩
  · exact ⟨0, le_refl _, by rw [EReal.bot_sub]; rfl⟩
  · exact ⟨Real.exp (r - p), (Real.exp_pos _).le, by rw [← EReal.coe_sub]; rfl⟩

/-- A sum of such weights is a real that isn't negative. -/
theorem sum_real {n : ℕ} (f : Fin n → EReal) (h : ∀ j, ∃ w : ℝ, 0 ≤ w ∧ f j = (w : EReal)) :
    ∃ w : ℝ, 0 ≤ w ∧ ∑ j, f j = (w : EReal) := by
  choose w hw e using h
  refine ⟨∑ j, w j, Finset.sum_nonneg fun j _ => hw j, ?_⟩
  rw [Finset.sum_congr rfl fun j _ => e j]
  exact (map_sum (⟨⟨Real.toEReal, rfl⟩, EReal.coe_add⟩ : ℝ →+ EReal) w Finset.univ).symm

/-- The denominator is a positive real. -/
theorem total_real (s₀ s₁ : Fin 128 → EReal) (h₀ : ∀ j, Masked (s₀ j)) (h₁ : ∀ j, Masked (s₁ j)) (k : ℝ) :
    ∃ d : ℝ, 0 < d ∧ total s₀ s₁ (k : EReal) = (d : EReal) := by
  obtain ⟨p, hp⟩ := peak_real s₀ s₁ h₀ h₁ k
  unfold total
  rw [hp]
  obtain ⟨a, ha, ea⟩ := sum_real _ fun j => weight_real (s₀ j) (h₀ j) p
  obtain ⟨b, hb, eb⟩ := sum_real _ fun j => weight_real (s₁ j) (h₁ j) p
  refine ⟨a + b + Real.exp (k - p), by have := Real.exp_pos (k - p); linarith, ?_⟩
  rw [ea, eb, ← EReal.coe_sub]
  simp only [EReal.coe_add]
  rfl

/-- The two forms agree: dividing each weight by the denominator, or multiplying by its reciprocal; a key whose score is
    masked has no weight, so its value doesn't matter. -/
theorem whole_eq_cell (s : Fin 256 → EReal) (s₀ s₁ : Fin 128 → EReal) (v : Fin 256 → EReal) (v₀ v₁ : Fin 128 → EReal) (k : ℝ)
    (h₀ : ∀ j : Fin 128, s ⟨j.val, by omega⟩ = s₀ j) (h₁ : ∀ j : Fin 128, s ⟨128 + j.val, by omega⟩ = s₁ j)
    (m₀ : ∀ j, Masked (s₀ j)) (m₁ : ∀ j, Masked (s₁ j))
    (e₀ : ∀ j : Fin 128, s₀ j = ⊥ ∨ v ⟨j.val, by omega⟩ = v₀ j) (e₁ : ∀ j : Fin 128, v ⟨128 + j.val, by omega⟩ = v₁ j) :
    whole s (k : EReal) v = cell s₀ s₁ (k : EReal) v₀ v₁ := by
  obtain ⟨p, hp⟩ := peak_real s₀ s₁ m₀ m₁ k
  obtain ⟨d, hd, ed⟩ := total_real s₀ s₁ m₀ m₁ k
  have hM : max (Finset.univ.fold max ⊥ s) (k : EReal) = (p : EReal) := by rw [fold_halves s s₀ s₁ h₀ h₁]; exact hp
  have split : ∀ f : Fin 256 → EReal, ∑ x, f x = ∑ j : Fin 128, f ⟨j.val, by omega⟩ + ∑ j : Fin 128, f ⟨128 + j.val, by omega⟩ :=
    fun f => Fin.sum_univ_add (a := 128) (b := 128) f
  have hD : ∑ x, Ideal.exp (s x - (p : EReal)) + Ideal.exp ((k : EReal) - (p : EReal)) = (d : EReal) := by
    rw [← ed, split, total, hp]
    simp only [h₀, h₁]
  unfold whole cell
  rw [hM, hD, ed, hp, split]
  simp only [h₀, h₁, e₁, Ideal.div_coe hd.ne', one_mul]
  congr 1
  · refine Finset.sum_congr rfl fun j _ => ?_
    rcases e₀ j with e | e
    · rw [e, EReal.bot_sub]
      show _ * ((0 : EReal) * _) = (0 : EReal) * _ * _
      simp only [zero_mul, mul_zero]
    · rw [e, mul_comm]
  · exact Finset.sum_congr rfl fun j _ => mul_comm _ _

end AttnMath

end
-- ==== Proof.AttnBlock.lean ====
module

public import proofs.«01_k».proof.Proof.Gen.AttnIdeal.Skeleton
public import proofs.«01_k».proof.Proof.AttnMath
public import Idealize.ShloMosaic.Lib.Pointwise
public import Idealize.ShloMosaic.Lib.WordCmp

@[expose] public section

set_option maxRecDepth 16384

noncomputable section

/-! # What the attention kernel's body stores at one grid point -/

namespace Cert.AttnIdeal.Cell

open Cert.AttnIdeal Cert.AttnIdeal.Gen Idealize.ShloMosaic Idealize.ShloMosaic.TcCoe Idealize.SL.Sem
open AttnMath

/-- The mask's name denotes `⊥`. -/
theorem mask_bot : (Named.named κ "mask" 0xF149F2CA#32 : Ideal .f32) = (⊥ : EReal) :=
  IdealRules.named_const.ideal_named_scalar _ _ _ _ rfl

/-- Four heads' queries stacked: row `128 h + r` is query `r` of head `h`. -/
theorem queries_lo (v : FVec Ideal S1x128x512 .f32) (h : Fin 4) (r : Fin 128) (e : Fin 64) :
    k0_pay10 (F := Ideal) v (ix2 ⟨h.val * 128 + r.val, by omega⟩ e) = v (ix3 0 r ⟨h.val * 64 + e.val, by omega⟩) := by
  pointwise [k0_pay10, k0_pay5]
  have hr := r.isLt
  fin_vals h with hh
  all_goals simp only [hh]
  · rw [dif_pos (by omega)]; congr 1; refine (ix3_inj ..).2 ⟨rfl, ?_, ?_⟩ <;> apply Fin.ext <;> simp
  · rw [dif_neg (by omega), dif_pos (by omega)]; congr 1; refine (ix3_inj ..).2 ⟨rfl, ?_, ?_⟩ <;> apply Fin.ext <;> simp
  · rw [dif_neg (by omega), dif_neg (by omega), dif_pos (by omega)]; congr 1; refine (ix3_inj ..).2 ⟨rfl, ?_, ?_⟩ <;> apply Fin.ext <;> simp <;> omega
  · rw [dif_neg (by omega), dif_neg (by omega), dif_neg (by omega)]; congr 1; refine (ix3_inj ..).2 ⟨rfl, ?_, ?_⟩ <;> apply Fin.ext <;> simp <;> omega

/-- The same of the other four heads. -/
theorem queries_hi (v : FVec Ideal S1x128x512 .f32) (h : Fin 4) (r : Fin 128) (e : Fin 64) :
    k0_pay26 (F := Ideal) (k0_pay5 v) (ix2 ⟨h.val * 128 + r.val, by omega⟩ e)
      = v (ix3 0 r ⟨(4 + h.val) * 64 + e.val, by omega⟩) := by
  pointwise [k0_pay26, k0_pay5]
  have hr := r.isLt
  fin_vals h with hh
  all_goals simp only [hh]
  · rw [dif_pos (by omega)]; congr 1; refine (ix3_inj ..).2 ⟨rfl, ?_, ?_⟩ <;> apply Fin.ext <;> simp
  · rw [dif_neg (by omega), dif_pos (by omega)]; congr 1; refine (ix3_inj ..).2 ⟨rfl, ?_, ?_⟩ <;> apply Fin.ext <;> simp
  · rw [dif_neg (by omega), dif_neg (by omega), dif_pos (by omega)]; congr 1; refine (ix3_inj ..).2 ⟨rfl, ?_, ?_⟩ <;> apply Fin.ext <;> simp <;> omega
  · rw [dif_neg (by omega), dif_neg (by omega), dif_neg (by omega)]; congr 1; refine (ix3_inj ..).2 ⟨rfl, ?_, ?_⟩ <;> apply Fin.ext <;> simp <;> omega

/-- The low seven bits of a row number are its position in the tile. -/
theorem lane_word : ∀ n : Fin 512, IntOp.andi (BitVec.ofNat 32 n.val) 127#32 = BitVec.ofNat 32 (n.val % 128) := by decide +kernel

/-- The other bits are the head. -/
theorem group_word : ∀ n : Fin 512, IntOp.shrsi .vector (BitVec.ofNat 32 n.val) 7#32 = BitVec.ofNat 32 (n.val / 128) := by decide +kernel

/-- A comparison of a key's position with a query's, the query's moved on by `n`. -/
theorem later_word (n : Nat) (hn : n ≤ 128) (r j : Fin 128) (x y : EReal) :
    Scalar.select (IntOp.cmpi .sgt (BitVec.ofNat 32 j.val) (IntOp.addi (BitVec.ofNat 32 r.val) (BitVec.ofNat 32 n))) x y
      = if r.val + n < j.val then x else y := by
  rw [show IntOp.addi (BitVec.ofNat 32 r.val) (BitVec.ofNat 32 n) = BitVec.ofNat 32 (r.val + n) from (BitVec.ofNat_add _ _).symm]
  word_cmp

/-- The mask of the window before: a key is seen if there is a window before and the key is less than 128 back. -/
theorem mask_prev (i : grid0.Coords) (h : Fin 4) (r j : Fin 128) (x y : EReal) :
    Scalar.select (k0_pay2 i (ix2 ⟨h.val * 128 + r.val, by omega⟩ j)) x y
      = if 1 ≤ (i 1).val ∧ r.val < j.val then x else y := by
  pointwise [k0_pay2]
  have hi : (i 1).val < 64 := (i 1).isLt
  have e := lane_word ⟨h.val * 128 + r.val, by omega⟩
  rw [show (h.val * 128 + r.val) % 128 = r.val by omega] at e
  rw [e]
  have w : Scalar.select (Scalar.cmpi .sge (BitVec.ofNat 32 (i 1).val) 1#32) 0#32 128#32
      = BitVec.ofNat 32 (if 1 ≤ (i 1).val then 0 else 128) := by
    by_cases hb : 1 ≤ (i 1).val
    · rw [if_pos hb]; word_cmp; rw [if_pos hb]
    · rw [if_neg hb]; word_cmp; rw [if_neg hb]
  rw [w, later_word _ (by split <;> omega)]
  have := j.isLt
  by_cases hb : 1 ≤ (i 1).val
  · simp [hb]
  · simp only [hb, if_false, false_and]; rw [if_neg (by omega)]

/-- The mask of the query's own window: a key is seen if it isn't later than the query. -/
theorem mask_cur (h : Fin 4) (r j : Fin 128) (x y : EReal) :
    Scalar.select (k0_pay3 (ix2 ⟨h.val * 128 + r.val, by omega⟩ j)) x y = if j.val ≤ r.val then x else y := by
  pointwise [k0_pay3]
  have e := lane_word ⟨h.val * 128 + r.val, by omega⟩
  rw [show (h.val * 128 + r.val) % 128 = r.val by omega] at e
  rw [e]
  word_cmp

/-- The sink of a row is its head's. -/
theorem sink_lo (a b c d : Elt Ideal .f32) (h : Fin 4) (r : Fin 128) :
    k0_pay11 (F := Ideal) k0_pay4 a b c d (ix2 ⟨h.val * 128 + r.val, by omega⟩ 0) = ![a, b, c, d] h := by
  pointwise [k0_pay11, k0_pay4]
  have e := group_word ⟨h.val * 128 + r.val, by omega⟩
  rw [show (h.val * 128 + r.val) / 128 = h.val by omega] at e
  rw [e]
  fin_cases h <;> rfl

/-- The same of the other four heads. -/
theorem sink_hi (a b c d : Elt Ideal .f32) (h : Fin 4) (r : Fin 128) :
    k0_pay28 (F := Ideal) k0_pay4 k0_pay27 a b c d (ix2 ⟨h.val * 128 + r.val, by omega⟩ 0) = ![a, b, c, d] h := by
  pointwise [k0_pay28, k0_pay4, k0_pay27]
  have e := group_word ⟨h.val * 128 + r.val, by omega⟩
  rw [show (h.val * 128 + r.val) / 128 = h.val by omega] at e
  rw [e]
  fin_cases h <;> rfl

/-- Score of query `r` (columns `64 h …` of the query tile `q`) and key `j` of the key tile `k`. -/
def sc (q : FVec Ideal S1x128x512 .f32) (k : FVec Ideal S1x128x64 .f32) (h : Fin 8) (r j : Fin 128) : EReal :=
  score (fun e => q (ix3 0 r ⟨h.val * 64 + e.val, by omega⟩)) (fun e => k (ix3 0 j e))

/-- The element of head `h`, query `r`, column `d` that a grid point computes from its tiles. -/
def tileCell (i : grid0.Coords) (q : FVec Ideal S1x128x512 .f32) (k₀ v₀ k₁ v₁ : FVec Ideal S1x128x64 .f32) (sink : EReal)
    (h : Fin 8) (r : Fin 128) (d : Fin 64) : EReal :=
  cell (fun j => if 1 ≤ (i 1).val ∧ r.val < j.val then sc q k₀ h r j else ⊥)
    (fun j => if j.val ≤ r.val then sc q k₁ h r j else ⊥) sink (fun j => v₀ (ix3 0 j d)) (fun j => v₁ (ix3 0 j d))

/-- The first key head: what the body computes for row `128 h + r`. -/
theorem heads_lo (i : grid0.Coords) (q : FVec Ideal S1x128x512 .f32) (k₀ v₀ k₁ v₁ : FVec Ideal S1x128x64 .f32)
    (a b c d : Elt Ideal .f32) (h : Fin 4) (r : Fin 128) (l : Fin 64) :
    k0_pay17 (F := Ideal) (k0_pay7 v₀) (k0_pay9 v₁) (k0_pay11 k0_pay4 a b c d)
      (k0_pay14 (k0_pay2 i) k0_pay3 k0_pay4 (k0_pay6 k₀) (k0_pay8 k₁) (k0_pay10 q) a b c d)
      (k0_pay15 (k0_pay2 i) k0_pay3 k0_pay4 (k0_pay6 k₀) (k0_pay8 k₁) (k0_pay10 q) a b c d)
      (k0_pay16 (k0_pay2 i) k0_pay3 k0_pay4 (k0_pay6 k₀) (k0_pay8 k₁) (k0_pay10 q) a b c d)
      (ix2 ⟨h.val * 128 + r.val, by omega⟩ l)
      = tileCell i q k₀ v₀ k₁ v₁ (![a, b, c, d] h) ⟨h.val, by omega⟩ r l := by
  pointwise [k0_pay17, k0_pay15, k0_pay16, k0_pay14, k0_pay12, k0_pay13, k0_pay6, k0_pay7, k0_pay8, k0_pay9]
  simp only [queries_lo, mask_prev, mask_cur, sink_lo, mask_bot, negInf]
  rfl

/-- Columns 0 to 63 of the last step: head 0, already weighted. -/
theorem place_0
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨0 + l.val, by omega⟩) = w₀ (ix2 r l) := by
  pointwise [k0_pay1]

/-- Columns 64 to 127 of the last step: head 1, already weighted. -/
theorem place_1
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨64 + l.val, by omega⟩) = w₁ (ix2 r l) := by
  pointwise [k0_pay1]

/-- Columns 128 to 191 of the last step: head 2, already weighted. -/
theorem place_2
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨128 + l.val, by omega⟩) = w₂ (ix2 r l) := by
  pointwise [k0_pay1]
  have hl := l.isLt
  have e : (⟨128 + l.val - 64 - 64, by omega⟩ : Fin 64) = l := Fin.ext (by show 128 + l.val - 64 - 64 = l.val; omega)
  rw [dif_neg (by omega), dif_neg (by omega), dif_pos (by omega)]
  exact congrArg (fun z => w₂ (ix2 r z)) e

/-- Columns 192 to 255 of the last step: head 3, already weighted. -/
theorem place_3
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨192 + l.val, by omega⟩) = w₃ (ix2 r l) := by
  pointwise [k0_pay1]
  have hl := l.isLt
  have e : (⟨192 + l.val - 64 - 64 - 64, by omega⟩ : Fin 64) = l := Fin.ext (by show 192 + l.val - 64 - 64 - 64 = l.val; omega)
  rw [dif_neg (by omega), dif_neg (by omega), dif_neg (by omega), dif_pos (by omega)]
  exact congrArg (fun z => w₃ (ix2 r z)) e

/-- The last step's weighted values of the other four heads, at row `n`. -/
def weighted (v108 v114 : FVec Ideal S128x64 .bf16)
    (v141 v157 : FVec Ideal S512x1 .f32) (v160 v163 : FVec Ideal S512x128 .f32) (v164 : FVec Ideal S512 .f32)
    (n : Fin 512) (l : Fin 64) : EReal :=
  ∑ x : Fin 128, v160 (ix2 n x) * Ideal.div 1 (v164 (ix1 n) + ∑ y : Fin 128, v163 (ix2 n y) + Ideal.exp (v141 (ix2 n 0) - v157 (ix2 n 0))) * v108 (ix2 x l)
    + ∑ x : Fin 128, v163 (ix2 n x) * Ideal.div 1 (v164 (ix1 n) + ∑ y : Fin 128, v163 (ix2 n y) + Ideal.exp (v141 (ix2 n 0) - v157 (ix2 n 0))) * v114 (ix2 x l)

/-- Columns 256 to 319 of the last step: head 4, weighted here. -/
theorem place_4
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨256 + l.val, by omega⟩) = weighted v108 v114 v141 v157 v160 v163 v164 ⟨r.val, by omega⟩ l := by
  pointwise [k0_pay1]
  have hl := l.isLt
  have e : (⟨256 + l.val - 64 - 64 - 64 - 64, by omega⟩ : Fin 64) = l := Fin.ext (by show 256 + l.val - 64 - 64 - 64 - 64 = l.val; omega)
  rw [dif_neg (by omega), dif_neg (by omega), dif_neg (by omega), dif_neg (by omega), dif_pos (by omega)]
  rw [e]
  rfl

/-- Columns 320 to 383 of the last step: head 5, weighted here. -/
theorem place_5
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨320 + l.val, by omega⟩) = weighted v108 v114 v141 v157 v160 v163 v164 ⟨128 + r.val, by omega⟩ l := by
  pointwise [k0_pay1]
  have hl := l.isLt
  have e : (⟨320 + l.val - 64 - 64 - 64 - 64 - 64, by omega⟩ : Fin 64) = l := Fin.ext (by show 320 + l.val - 64 - 64 - 64 - 64 - 64 = l.val; omega)
  rw [dif_neg (by omega), dif_neg (by omega), dif_neg (by omega), dif_neg (by omega), dif_neg (by omega), dif_pos (by omega)]
  rw [e]
  rfl

/-- Columns 384 to 447 of the last step: head 6, weighted here. -/
theorem place_6
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨384 + l.val, by omega⟩) = weighted v108 v114 v141 v157 v160 v163 v164 ⟨256 + r.val, by omega⟩ l := by
  pointwise [k0_pay1]
  have hl := l.isLt
  have e : (⟨384 + l.val - 64 - 64 - 64 - 64 - 64 - 64, by omega⟩ : Fin 64) = l := Fin.ext (by show 384 + l.val - 64 - 64 - 64 - 64 - 64 - 64 = l.val; omega)
  rw [dif_neg (by omega), dif_neg (by omega), dif_neg (by omega), dif_neg (by omega), dif_neg (by omega), dif_neg (by omega), dif_pos (by omega)]
  rw [e]
  rfl

/-- Columns 448 to 511 of the last step: head 7, weighted here. -/
theorem place_7
    (w₀ w₁ w₂ w₃ : FVec Ideal S128x64 .f32) (v108 v114 : FVec Ideal S128x64 .bf16)
    (v141 v157 : FVec Ideal S512x1 .f32) (v160 v163 : FVec Ideal S512x128 .f32) (v164 : FVec Ideal S512 .f32)
    (r : Fin 128) (l : Fin 64) :
    k0_pay1 w₀ w₁ w₂ w₃ v108 v114 v141 v157 v160 v163 v164 (ix3 0 r ⟨448 + l.val, by omega⟩) = weighted v108 v114 v141 v157 v160 v163 v164 ⟨384 + r.val, by omega⟩ l := by
  pointwise [k0_pay1]
  have hl := l.isLt
  have e : (⟨448 + l.val - 64 - 64 - 64 - 64 - 64 - 64 - 64, by omega⟩ : Fin 64) = l := Fin.ext (by show 448 + l.val - 64 - 64 - 64 - 64 - 64 - 64 - 64 = l.val; omega)
  rw [dif_neg (by omega), dif_neg (by omega), dif_neg (by omega), dif_neg (by omega), dif_neg (by omega), dif_neg (by omega), dif_neg (by omega)]
  rw [e]
  rfl

/-- The weights' peak of the other four heads. -/
theorem peak_hi (i : grid0.Coords) (q : FVec Ideal S1x128x512 .f32) (k₀ k₁ : FVec Ideal S1x128x64 .f32)
    (a b c d : Elt Ideal .f32) (h : Fin 4) (r : Fin 128) :
    k0_pay31 (F := Ideal) (k0_pay2 i) k0_pay3 k0_pay4 (k0_pay22 k₀) (k0_pay24 k₁) (k0_pay26 (k0_pay5 q)) k0_pay27 a b c d
        (ix2 ⟨h.val * 128 + r.val, by omega⟩ 0)
      = peak (fun j => if 1 ≤ (i 1).val ∧ r.val < j.val then sc q k₀ ⟨4 + h.val, by omega⟩ r j else ⊥)
          (fun j => if j.val ≤ r.val then sc q k₁ ⟨4 + h.val, by omega⟩ r j else ⊥) (![a, b, c, d] h) := by
  pointwise [k0_pay31, k0_pay29, k0_pay30, k0_pay22, k0_pay24]
  simp only [queries_hi, mask_prev, mask_cur, sink_hi, mask_bot, negInf]
  rfl

/-- The weights of the other four heads' window before. -/
theorem prev_hi (i : grid0.Coords) (q : FVec Ideal S1x128x512 .f32) (k₀ k₁ : FVec Ideal S1x128x64 .f32)
    (a b c d : Elt Ideal .f32) (h : Fin 4) (r j : Fin 128) :
    k0_pay32 (F := Ideal) (k0_pay2 i) k0_pay3 k0_pay4 (k0_pay22 k₀) (k0_pay24 k₁) (k0_pay26 (k0_pay5 q)) k0_pay27 a b c d
        (ix2 ⟨h.val * 128 + r.val, by omega⟩ j)
      = Ideal.exp ((if 1 ≤ (i 1).val ∧ r.val < j.val then sc q k₀ ⟨4 + h.val, by omega⟩ r j else ⊥)
        - peak (fun j => if 1 ≤ (i 1).val ∧ r.val < j.val then sc q k₀ ⟨4 + h.val, by omega⟩ r j else ⊥)
          (fun j => if j.val ≤ r.val then sc q k₁ ⟨4 + h.val, by omega⟩ r j else ⊥) (![a, b, c, d] h)) := by
  rw [← peak_hi]
  pointwise [k0_pay32, k0_pay29, k0_pay22]
  simp only [queries_hi, mask_prev, mask_bot]
  rfl

/-- The weights of the other four heads' own window. -/
theorem cur_hi (i : grid0.Coords) (q : FVec Ideal S1x128x512 .f32) (k₀ k₁ : FVec Ideal S1x128x64 .f32)
    (a b c d : Elt Ideal .f32) (h : Fin 4) (r j : Fin 128) :
    k0_pay33 (F := Ideal) (k0_pay2 i) k0_pay3 k0_pay4 (k0_pay22 k₀) (k0_pay24 k₁) (k0_pay26 (k0_pay5 q)) k0_pay27 a b c d
        (ix2 ⟨h.val * 128 + r.val, by omega⟩ j)
      = Ideal.exp ((if j.val ≤ r.val then sc q k₁ ⟨4 + h.val, by omega⟩ r j else ⊥)
        - peak (fun j => if 1 ≤ (i 1).val ∧ r.val < j.val then sc q k₀ ⟨4 + h.val, by omega⟩ r j else ⊥)
          (fun j => if j.val ≤ r.val then sc q k₁ ⟨4 + h.val, by omega⟩ r j else ⊥) (![a, b, c, d] h)) := by
  rw [← peak_hi i q k₀ k₁]
  pointwise [k0_pay33, k0_pay30, k0_pay24]
  simp only [queries_hi, mask_cur, mask_bot]
  rfl

/-- What the body stores, from the tiles that it loads. -/
def stored (i : grid0.Coords) (q : FVec Ideal S1x128x512 .f32) (k₀ v₀ k₁ v₁ k₀' v₀' k₁' v₁' : FVec Ideal S1x128x64 .f32)
    (a b c d a' b' c' d' : Elt Ideal .f32) : FVec Ideal S1x128x512 .f32 :=
  have v57 := k0_pay11 (F := Ideal) k0_pay4 a b c d
  have v73 := k0_pay14 (F := Ideal) (k0_pay2 i) k0_pay3 k0_pay4 (k0_pay6 k₀) (k0_pay8 k₁) (k0_pay10 q) a b c d
  have v76 := k0_pay15 (F := Ideal) (k0_pay2 i) k0_pay3 k0_pay4 (k0_pay6 k₀) (k0_pay8 k₁) (k0_pay10 q) a b c d
  have v79 := k0_pay16 (F := Ideal) (k0_pay2 i) k0_pay3 k0_pay4 (k0_pay6 k₀) (k0_pay8 k₁) (k0_pay10 q) a b c d
  k0_pay1 (k0_pay18 (k0_pay7 v₀) (k0_pay9 v₁) v57 v73 v76 v79) (k0_pay19 (k0_pay7 v₀) (k0_pay9 v₁) v57 v73 v76 v79)
    (k0_pay20 (k0_pay7 v₀) (k0_pay9 v₁) v57 v73 v76 v79) (k0_pay21 (k0_pay7 v₀) (k0_pay9 v₁) v57 v73 v76 v79)
    (k0_pay23 v₀') (k0_pay25 v₁') (k0_pay28 k0_pay4 k0_pay27 a' b' c' d')
    (k0_pay31 (k0_pay2 i) k0_pay3 k0_pay4 (k0_pay22 k₀') (k0_pay24 k₁') (k0_pay26 (k0_pay5 q)) k0_pay27 a' b' c' d')
    (k0_pay32 (k0_pay2 i) k0_pay3 k0_pay4 (k0_pay22 k₀') (k0_pay24 k₁') (k0_pay26 (k0_pay5 q)) k0_pay27 a' b' c' d')
    (k0_pay33 (k0_pay2 i) k0_pay3 k0_pay4 (k0_pay22 k₀') (k0_pay24 k₁') (k0_pay26 (k0_pay5 q)) k0_pay27 a' b' c' d')
    (k0_pay34 (k0_pay2 i) k0_pay3 k0_pay4 (k0_pay22 k₀') (k0_pay24 k₁') (k0_pay26 (k0_pay5 q)) k0_pay27 a' b' c' d')

/-- The columns of the first four heads. -/
theorem stored_lo (i : grid0.Coords) (q : FVec Ideal S1x128x512 .f32) (k₀ v₀ k₁ v₁ k₀' v₀' k₁' v₁' : FVec Ideal S1x128x64 .f32)
    (a b c d a' b' c' d' : Elt Ideal .f32) (h : Fin 4) (r : Fin 128) (l : Fin 64) :
    stored i q k₀ v₀ k₁ v₁ k₀' v₀' k₁' v₁' a b c d a' b' c' d' (ix3 0 r ⟨h.val * 64 + l.val, by omega⟩)
      = tileCell i q k₀ v₀ k₁ v₁ (![a, b, c, d] h) ⟨h.val, by omega⟩ r l := by
  rw [← heads_lo]
  fin_cases h
  · refine (place_0 _ _ _ _ _ _ _ _ _ _ _ r l).trans ?_
    pointwise [k0_pay18]
  · refine (place_1 _ _ _ _ _ _ _ _ _ _ _ r l).trans ?_
    pointwise [k0_pay19]
  · refine (place_2 _ _ _ _ _ _ _ _ _ _ _ r l).trans ?_
    pointwise [k0_pay20]
  · refine (place_3 _ _ _ _ _ _ _ _ _ _ _ r l).trans ?_
    pointwise [k0_pay21]

/-- The columns of the other four heads. -/
theorem stored_hi (i : grid0.Coords) (q : FVec Ideal S1x128x512 .f32) (k₀ v₀ k₁ v₁ k₀' v₀' k₁' v₁' : FVec Ideal S1x128x64 .f32)
    (a b c d a' b' c' d' : Elt Ideal .f32) (h : Fin 4) (r : Fin 128) (l : Fin 64) :
    stored i q k₀ v₀ k₁ v₁ k₀' v₀' k₁' v₁' a b c d a' b' c' d' (ix3 0 r ⟨(4 + h.val) * 64 + l.val, by omega⟩)
      = tileCell i q k₀' v₀' k₁' v₁' (![a', b', c', d'] h) ⟨4 + h.val, by omega⟩ r l := by
  have e : ∀ n : Fin 512, k0_pay34 (F := Ideal) (k0_pay2 i) k0_pay3 k0_pay4 (k0_pay22 k₀') (k0_pay24 k₁') (k0_pay26 (k0_pay5 q)) k0_pay27 a' b' c' d' (ix1 n)
      = ∑ x : Fin 128, k0_pay32 (F := Ideal) (k0_pay2 i) k0_pay3 k0_pay4 (k0_pay22 k₀') (k0_pay24 k₁') (k0_pay26 (k0_pay5 q)) k0_pay27 a' b' c' d' (ix2 n x) := by
    intro n
    pointwise [k0_pay34]
  have e₀ : ∀ x : Fin 128, k0_pay23 (F := Ideal) v₀' (ix2 x l) = v₀' (ix3 0 x l) := by intro x; pointwise [k0_pay23]
  have e₁ : ∀ x : Fin 128, k0_pay25 (F := Ideal) v₁' (ix2 x l) = v₁' (ix3 0 x l) := by intro x; pointwise [k0_pay25]
  have g : stored i q k₀ v₀ k₁ v₁ k₀' v₀' k₁' v₁' a b c d a' b' c' d' (ix3 0 r ⟨(4 + h.val) * 64 + l.val, by omega⟩)
      = weighted (k0_pay23 v₀') (k0_pay25 v₁') (k0_pay28 k0_pay4 k0_pay27 a' b' c' d')
        (k0_pay31 (k0_pay2 i) k0_pay3 k0_pay4 (k0_pay22 k₀') (k0_pay24 k₁') (k0_pay26 (k0_pay5 q)) k0_pay27 a' b' c' d')
        (k0_pay32 (k0_pay2 i) k0_pay3 k0_pay4 (k0_pay22 k₀') (k0_pay24 k₁') (k0_pay26 (k0_pay5 q)) k0_pay27 a' b' c' d')
        (k0_pay33 (k0_pay2 i) k0_pay3 k0_pay4 (k0_pay22 k₀') (k0_pay24 k₁') (k0_pay26 (k0_pay5 q)) k0_pay27 a' b' c' d')
        (k0_pay34 (k0_pay2 i) k0_pay3 k0_pay4 (k0_pay22 k₀') (k0_pay24 k₁') (k0_pay26 (k0_pay5 q)) k0_pay27 a' b' c' d')
        ⟨h.val * 128 + r.val, by omega⟩ l := by
    fin_cases h
    · exact (place_4 _ _ _ _ _ _ _ _ _ _ _ r l).trans (congrArg (weighted _ _ _ _ _ _ _ · l) (Fin.ext (by simp)))
    · exact place_5 _ _ _ _ _ _ _ _ _ _ _ r l
    · exact place_6 _ _ _ _ _ _ _ _ _ _ _ r l
    · exact place_7 _ _ _ _ _ _ _ _ _ _ _ r l
  rw [g, weighted]
  simp only [e, e₀, e₁, prev_hi, cur_hi, peak_hi, sink_hi]
  rfl

end Cert.AttnIdeal.Cell
-- ==== Proof.AttnArray.lean ====
module

public import proofs.«01_k».proof.Proof.Gen.AttnIdeal.Value
public import proofs.«01_k».proof.Proof.AttnBlock
public import Idealize.ShloMosaic.Lib.Pipeline.ValueKit
public import Idealize.ShloMosaic.Lib.Claim

@[expose] public section

set_option maxRecDepth 16384

noncomputable section

/-! # The attention kernel's result array -/

namespace Cert.AttnIdeal.Cell

open Cert.AttnIdeal Cert.AttnIdeal.Gen Idealize.ShloMosaic Idealize.ShloMosaic.TcCoe Idealize.SL.Sem
open Idealize.ShloMosaic.Pipeline (Dat)
open AttnMath

variable (m : (ℓ : Loc nD τ sig) → Buf (Elt Ideal) ℓ)

/-- The attention of sequence `b`, block `n`, query `r` of the block, head `h`, column `d`: its window is the block before
    (if there is one) and the block's own keys up to the query. -/
def attn (sinks : FVec Ideal S8 .f32) (q : FVec Ideal S4x8192x8x64 .f32) (k v : FVec Ideal S4x8192x2x64 .f32)
    (b : Fin 4) (n : Fin 64) (r : Fin 128) (h : Fin 8) (d : Fin 64) : EReal :=
  cell
    (fun j => if 1 ≤ n.val ∧ r.val < j.val then
      score (fun e => q (ix4 b ⟨n.val * 128 + r.val, by omega⟩ h e)) (fun e => k (ix4 b ⟨(n.val - 1) * 128 + j.val, by omega⟩ ⟨h.val / 4, by omega⟩ e)) else ⊥)
    (fun j => if j.val ≤ r.val then
      score (fun e => q (ix4 b ⟨n.val * 128 + r.val, by omega⟩ h e)) (fun e => k (ix4 b ⟨n.val * 128 + j.val, by omega⟩ ⟨h.val / 4, by omega⟩ e)) else ⊥)
    (sinks (ix1 h))
    (fun j => v (ix4 b ⟨(n.val - 1) * 128 + j.val, by omega⟩ ⟨h.val / 4, by omega⟩ d))
    (fun j => v (ix4 b ⟨n.val * 128 + j.val, by omega⟩ ⟨h.val / 4, by omega⟩ d))

/-- The attention as one array. -/
def attnArray (sinks : FVec Ideal S8 .f32) (q : FVec Ideal S4x8192x8x64 .f32) (k v : FVec Ideal S4x8192x2x64 .f32) :
    FVec Ideal S4x8192x512 .f32 := fun i =>
  attn sinks q k v (i 0) ⟨(i 1).val / 128, by have : (i 1).val < 8192 := (i 1).isLt; omega⟩ ⟨(i 1).val % 128, by omega⟩
    ⟨(i 2).val / 64, by have : (i 2).val < 512 := (i 2).isLt; omega⟩ ⟨(i 2).val % 64, by omega⟩

/-- The grid's coordinates. -/
theorem coords_val : ∀ t : Fin cfg0.N, (grid0.coords t 0).val = t.val / 64 ∧ (grid0.coords t 1).val = t.val % 64 :=
  (by decide +kernel : ∀ t : Fin grid0.N, _)

/-- Every window's block index at a grid point. -/
theorem idx : ∀ t : Fin cfg0.N, win0_0.index t = ![0] ∧ win0_1.index t = ![t.val / 64, t.val % 64, 0]
    ∧ win0_2.index t = ![t.val / 64, t.val % 64 - 1, 0] ∧ win0_3.index t = ![t.val / 64, t.val % 64 - 1, 0]
    ∧ win0_4.index t = ![t.val / 64, t.val % 64, 0] ∧ win0_5.index t = ![t.val / 64, t.val % 64, 0]
    ∧ win0_6.index t = ![t.val / 64, t.val % 64, 0] :=
  (by decide +kernel : ∀ t : Fin grid0.N, _)

/-- The query tile at a grid point. -/
theorem q_at (c : Dev nD) (t : Fin cfg0.N) (r : Fin 128) (h : Fin 8) (e : Fin 64) :
    (iblk m c 1 t : FVec Ideal S1x128x512 .f32) (ix3 0 r ⟨h.val * 64 + e.val, by omega⟩)
      = (m ((c : Thread nD τ).loc main_arg1) : FVec Ideal S4x8192x8x64 .f32)
          (ix4 ⟨t.val / 64, by have : cfg0.N = 256 := N_0; omega⟩ ⟨t.val % 64 * 128 + r.val, by omega⟩ h e) := by
  blk_point [iblk, V, idx t]

/-- The key tile of the block before. -/
theorem kp_at (c : Dev nD) (t : Fin cfg0.N) (r : Fin 128) (h : Fin 2) (e : Fin 64) :
    (iblk m c 2 t : FVec Ideal S1x128x128 .f32) (ix3 0 r ⟨h.val * 64 + e.val, by omega⟩)
      = (m ((c : Thread nD τ).loc main_arg2) : FVec Ideal S4x8192x2x64 .f32)
          (ix4 ⟨t.val / 64, by have : cfg0.N = 256 := N_0; omega⟩ ⟨(t.val % 64 - 1) * 128 + r.val, by omega⟩ h e) := by
  blk_point [iblk, V, idx t]

/-- The value tile of the block before. -/
theorem vp_at (c : Dev nD) (t : Fin cfg0.N) (r : Fin 128) (h : Fin 2) (e : Fin 64) :
    (iblk m c 3 t : FVec Ideal S1x128x128 .f32) (ix3 0 r ⟨h.val * 64 + e.val, by omega⟩)
      = (m ((c : Thread nD τ).loc main_arg3) : FVec Ideal S4x8192x2x64 .f32)
          (ix4 ⟨t.val / 64, by have : cfg0.N = 256 := N_0; omega⟩ ⟨(t.val % 64 - 1) * 128 + r.val, by omega⟩ h e) := by
  blk_point [iblk, V, idx t]

/-- The block's own key tile. -/
theorem kc_at (c : Dev nD) (t : Fin cfg0.N) (r : Fin 128) (h : Fin 2) (e : Fin 64) :
    (iblk m c 4 t : FVec Ideal S1x128x128 .f32) (ix3 0 r ⟨h.val * 64 + e.val, by omega⟩)
      = (m ((c : Thread nD τ).loc main_arg2) : FVec Ideal S4x8192x2x64 .f32)
          (ix4 ⟨t.val / 64, by have : cfg0.N = 256 := N_0; omega⟩ ⟨t.val % 64 * 128 + r.val, by omega⟩ h e) := by
  blk_point [iblk, V, idx t]

/-- The block's own value tile. -/
theorem vc_at (c : Dev nD) (t : Fin cfg0.N) (r : Fin 128) (h : Fin 2) (e : Fin 64) :
    (iblk m c 5 t : FVec Ideal S1x128x128 .f32) (ix3 0 r ⟨h.val * 64 + e.val, by omega⟩)
      = (m ((c : Thread nD τ).loc main_arg3) : FVec Ideal S4x8192x2x64 .f32)
          (ix4 ⟨t.val / 64, by have : cfg0.N = 256 := N_0; omega⟩ ⟨t.val % 64 * 128 + r.val, by omega⟩ h e) := by
  blk_point [iblk, V, idx t]

/-- The sinks are staged whole. -/
theorem sink_at (c : Dev nD) (t : Fin cfg0.N) (h : Fin 8) :
    (iblk m c 0 t : FVec Ideal S8 .f32) (ix1 h) = (m ((c : Thread nD τ).loc main_arg0) : FVec Ideal S8 .f32) (ix1 h) := by
  blk_point [iblk, V, idx t]

/-- The array read at a block, a query, a head and a column. -/
theorem attnArray_at (S : FVec Ideal S8 .f32) (Q : FVec Ideal S4x8192x8x64 .f32) (K V : FVec Ideal S4x8192x2x64 .f32)
    (b : Fin 4) (n : Fin 64) (r : Fin 128) (h : Fin 8) (d : Fin 64) :
    attnArray S Q K V (ix3 b ⟨n.val * 128 + r.val, by omega⟩ ⟨h.val * 64 + d.val, by omega⟩) = attn S Q K V b n r h d := by
  show attn S Q K V b ⟨(n.val * 128 + r.val) / 128, _⟩ ⟨(n.val * 128 + r.val) % 128, _⟩ ⟨(h.val * 64 + d.val) / 64, _⟩
    ⟨(h.val * 64 + d.val) % 64, _⟩ = _
  congr 1 <;> apply Fin.ext <;> dsimp only <;> omega

/-- A tile's element is the attention's, when the tiles hold what the windows say. -/
theorem tile_eq (i : grid0.Coords) (q : FVec Ideal S1x128x512 .f32) (k₀ v₀ k₁ v₁ : FVec Ideal S1x128x64 .f32) (sink : EReal)
    (S : FVec Ideal S8 .f32) (Q : FVec Ideal S4x8192x8x64 .f32) (K V : FVec Ideal S4x8192x2x64 .f32)
    (b : Fin 4) (n : Fin 64) (r : Fin 128) (h : Fin 8) (d : Fin 64) (hn : (i 1).val = n.val)
    (hq : ∀ e : Fin 64, q (ix3 0 r ⟨h.val * 64 + e.val, by omega⟩) = Q (ix4 b ⟨n.val * 128 + r.val, by omega⟩ h e))
    (hk₀ : ∀ (j : Fin 128) (e : Fin 64), k₀ (ix3 0 j e) = K (ix4 b ⟨(n.val - 1) * 128 + j.val, by omega⟩ ⟨h.val / 4, by omega⟩ e))
    (hk₁ : ∀ (j : Fin 128) (e : Fin 64), k₁ (ix3 0 j e) = K (ix4 b ⟨n.val * 128 + j.val, by omega⟩ ⟨h.val / 4, by omega⟩ e))
    (hv₀ : ∀ (j : Fin 128) (e : Fin 64), v₀ (ix3 0 j e) = V (ix4 b ⟨(n.val - 1) * 128 + j.val, by omega⟩ ⟨h.val / 4, by omega⟩ e))
    (hv₁ : ∀ (j : Fin 128) (e : Fin 64), v₁ (ix3 0 j e) = V (ix4 b ⟨n.val * 128 + j.val, by omega⟩ ⟨h.val / 4, by omega⟩ e))
    (hs : sink = S (ix1 h)) :
    tileCell i q k₀ v₀ k₁ v₁ sink h r d = attn S Q K V b n r h d := by
  unfold tileCell sc attn
  simp only [hn, hq, hk₀, hk₁, hv₀, hv₁, hs]

set_option maxHeartbeats 1600000 in
/-- The result array after the run. -/
theorem final (c : Dev nD) : (dats m 0 c).arrAt 6 (cfgs 0).N
    = attnArray (m ((c : Thread nD τ).loc main_arg0)) (m ((c : Thread nD τ).loc main_arg1))
        (m ((c : Thread nD τ).loc main_arg2)) (m ((c : Thread nD τ).loc main_arg3)) := by
  refine (dats m 0 c).arrAt_eq_of_covers 6 _ (by decide +kernel) fun t _ y => ?_
  blk_simp
  rw [after0_6]
  unfold outsAt0
  frame_out
  have hN : t.val < 256 := N_0 ▸ t.isLt
  have hy : ∃ (h : Fin 8) (r : Fin 128) (l : Fin 64), y = ix3 0 r ⟨h.val * 64 + l.val, by omega⟩ := by
    have h2 : (y 2).val < 512 := (y 2).isLt
    refine ⟨⟨(y 2).val / 64, by omega⟩, y 1, ⟨(y 2).val % 64, by omega⟩, ?_⟩
    refine (eq_ix3 y).trans ((ix3_inj ..).2 ⟨?_, rfl, ?_⟩)
    · exact Subsingleton.elim (α := Fin 1) _ _
    · apply Fin.ext; show (y 2).val = (y 2).val / 64 * 64 + (y 2).val % 64; omega
  obtain ⟨h, r, l, rfl⟩ := hy
  have he : ((View.whole main_v3).slice (win0_6.rect t)).emb (ix3 0 r ⟨h.val * 64 + l.val, by omega⟩)
      = ix3 (⟨t.val / 64, by omega⟩ : Fin 4) (⟨t.val % 64 * 128 + r.val, by omega⟩ : Fin 8192) (⟨h.val * 64 + l.val, by omega⟩ : Fin 512) := by
    blk_ext [idx t]
  refine Eq.trans ?_ ((congrArg _ he).trans (attnArray_at _ _ _ _ ⟨t.val / 64, by omega⟩ ⟨t.val % 64, by omega⟩ r h l)).symm
  rcases Nat.lt_or_ge h.val 4 with hlt | hge
  · refine Eq.trans (stored_lo (grid0.coords t) _ _ _ _ _ _ _ _ _ _ _ _ _ _ _ _ _ ⟨h.val, hlt⟩ r l) ?_
    have hg : (⟨h.val / 4, by omega⟩ : Fin 2) = 0 := Fin.ext (by show h.val / 4 = 0; omega)
    refine tile_eq _ _ _ _ _ _ _ _ _ _ _ _ _ _ _ _ (coords_val t).2 ?_ ?_ ?_ ?_ ?_ ?_
    · exact fun e => q_at m c t r h e
    · intro j e; pointwise; rw [hg]; exact Eq.trans (congrArg _ ((ix3_inj ..).2 ⟨rfl, rfl, Fin.ext (by simp)⟩)) (kp_at m c t j 0 e)
    · intro j e; pointwise; rw [hg]; exact Eq.trans (congrArg _ ((ix3_inj ..).2 ⟨rfl, rfl, Fin.ext (by simp)⟩)) (kc_at m c t j 0 e)
    · intro j e; pointwise; rw [hg]; exact Eq.trans (congrArg _ ((ix3_inj ..).2 ⟨rfl, rfl, Fin.ext (by simp)⟩)) (vp_at m c t j 0 e)
    · intro j e; pointwise; rw [hg]; exact Eq.trans (congrArg _ ((ix3_inj ..).2 ⟨rfl, rfl, Fin.ext (by simp)⟩)) (vc_at m c t j 0 e)
    · refine Eq.trans ?_ (sink_at m c t h)
      rcases h with ⟨n, hn⟩
      dsimp only at hlt
      clear he hg
      interval_cases n <;> pointwise
  · obtain ⟨g, rfl⟩ : ∃ g : Fin 4, h = ⟨4 + g.val, Nat.add_lt_add_left g.isLt 4⟩ := ⟨⟨h.val - 4, by omega⟩, Fin.ext (by show h.val = 4 + (h.val - 4); omega)⟩
    refine Eq.trans (stored_hi (grid0.coords t) _ _ _ _ _ _ _ _ _ _ _ _ _ _ _ _ _ g r l) ?_
    have hg : (⟨(4 + g.val) / 4, by omega⟩ : Fin 2) = 1 := Fin.ext (by show (4 + g.val) / 4 = 1; omega)
    refine tile_eq _ _ _ _ _ _ _ _ _ _ _ _ _ _ _ _ (coords_val t).2 ?_ ?_ ?_ ?_ ?_ ?_
    · exact fun e => q_at m c t r ⟨4 + g.val, by omega⟩ e
    · intro j e; pointwise; rw [hg]; exact kp_at m c t j 1 e
    · intro j e; pointwise; rw [hg]; exact kc_at m c t j 1 e
    · intro j e; pointwise; rw [hg]; exact vp_at m c t j 1 e
    · intro j e; pointwise; rw [hg]; exact vc_at m c t j 1 e
    · refine Eq.trans ?_ (sink_at m c t ⟨4 + g.val, by omega⟩)
      fin_cases g <;> pointwise

end Cert.AttnIdeal.Cell
-- ==== Proof.AttnRef.lean ====
module

public import proofs.«01_k».proof.Proof.Gen.AttnRefIdeal.Read
public import proofs.«01_k».proof.Proof.AttnMath
public import Idealize.ShloMosaic.Lib.Pointwise
public import Idealize.ShloMosaic.Lib.WordCmp

@[expose] public section

set_option maxRecDepth 16384

noncomputable section

/-! # The attention's reference, read at an index -/

namespace Cert.AttnRefIdeal.Cell

open Cert.AttnRefIdeal Cert.AttnRefIdeal.Gen Cert.AttnRefIdeal.Read Idealize.ShloMosaic Idealize.ShloMosaic.TcCoe Idealize.SL.Sem
open AttnMath

/-- The integer a small word stands for. -/
theorem small_word (x : ℕ) (h : x < 1000) : (BitVec.ofNat 32 x).toInt = x := by
  rw [BitVec.toInt_eq_toNat_of_lt (by rw [BitVec.toNat_ofNat]; omega), BitVec.toNat_ofNat]
  omega

/-- The word of a key's position, counted from the block before. -/
theorem kpos (n : Fin 64) (j : Fin 256) :
    (IntOp.addi (IntOp.subi (IntOp.muli (BitVec.ofNat 32 n.val) 128#32) 128#32) (BitVec.ofNat 32 j.val)).toInt
      = n.val * 128 - 128 + j.val := by
  have hn := n.isLt
  have hj := j.isLt
  have e1 : (128#32 : BitVec 32).toInt = 128 := rfl
  simp only [IntOp.addi, IntOp.subi, IntOp.muli, BitVec.toInt_add, BitVec.toInt_sub, BitVec.toInt_mul, e1, small_word n.val (by omega),
    small_word j.val (by omega), Int.bmod_add_bmod,
    Int.add_bmod_bmod, Int.sub_bmod_bmod, Int.bmod_sub_bmod, Int.bmod_mul_bmod, Int.mul_bmod_bmod]
  rw [Int.bmod_eq_of_le (by omega) (by omega)]

/-- The word of a query's position. -/
theorem qpos (n : Fin 64) (r : Fin 128) :
    (IntOp.addi (IntOp.muli (BitVec.ofNat 32 n.val) 128#32) (BitVec.ofNat 32 r.val)).toInt = n.val * 128 + r.val := by
  have hn := n.isLt
  have hj := r.isLt
  have e1 : (128#32 : BitVec 32).toInt = 128 := rfl
  simp only [IntOp.addi, IntOp.subi, IntOp.muli, BitVec.toInt_add, BitVec.toInt_sub, BitVec.toInt_mul, e1, small_word n.val (by omega),
    small_word r.val (by omega), Int.bmod_add_bmod,
    Int.add_bmod_bmod, Int.sub_bmod_bmod, Int.bmod_sub_bmod, Int.bmod_mul_bmod, Int.mul_bmod_bmod]
  rw [Int.bmod_eq_of_le (by omega) (by omega)]

/-- The difference of two words that are small integers. -/
theorem sub_word (a b : BitVec 32) (x y : ℤ) (ha : a.toInt = x) (hb : b.toInt = y) (h₁ : -1000000 ≤ x - y) (h₂ : x - y ≤ 1000000) :
    (IntOp.subi a b).toInt = x - y := by
  simp only [IntOp.subi, BitVec.toInt_sub, ha, hb]
  exact Int.bmod_eq_of_le (by omega) (by omega)

/-- The window's mask. -/
theorem mask_at (n : Fin 64) (r : Fin 128) (j : Fin 256) (x y : EReal) :
    Scalar.select (val_main_v33 (F := Ideal) (ix3 n r j)) x y
      = if (r.val < j.val ∧ j.val ≤ r.val + 128 ∧ (1 ≤ n.val ∨ 128 ≤ j.val)) then x else y := by
  have : val_main_v33 (F := Ideal) (ix3 n r j) = if (r.val < j.val ∧ j.val ≤ r.val + 128 ∧ (1 ≤ n.val ∨ 128 ≤ j.val)) then 1#1 else 0#1 := by
    pointwise [val_main_v33, val_main_v32, val_main_v31, val_main_v30, val_main_c_2, val_main_v29, val_main_v28, val_main_v27, val_main_c_1, val_main_v26, val_main_v25, val_main_v24, val_main_v23, val_main_v22, val_main_v21, val_main_v20, val_main_v19, val_main_v18, val_main_v17, val_main_v16, val_main_v15, val_main_v14, val_main_v13, val_main_v12, val_main_c_0, val_main_v11, val_main_v10, val_main_v9, val_main_v8, val_main_v7, val_main_v6, val_main_v5, val_main_c, val_main_v4, val_main_v3]
    have hn := n.isLt
    have hr := r.isLt
    have hj := j.isLt
    have hk := kpos n j
    have hq := qpos n r
    have hs := sub_word _ _ _ _ hq hk (by omega) (by omega)
    simp only [IntOp.cmpi, BitVec.sle, BitVec.slt, hk, hq, hs]
    have e0 : (0#32 : BitVec 32).toInt = 0 := rfl
    have e1 : (128#32 : BitVec 32).toInt = 128 := rfl
    rw [e0, e1]
    by_cases c1 : (n.val : ℤ) * 128 - 128 + j.val ≤ n.val * 128 + r.val
    · by_cases c2 : (n.val : ℤ) * 128 + r.val - (n.val * 128 - 128 + j.val) < 128
      · by_cases c3 : 0 ≤ (n.val : ℤ) * 128 - 128 + j.val
        · rw [decide_eq_true c1, decide_eq_true c2, decide_eq_true c3, if_pos (by omega)]; rfl
        · rw [decide_eq_true c1, decide_eq_true c2, decide_eq_false c3, if_neg (by omega)]; rfl
      · rw [decide_eq_true c1, decide_eq_false c2, if_neg (by omega)]
        by_cases c3 : 0 ≤ (n.val : ℤ) * 128 - 128 + j.val
        · rw [decide_eq_true c3]; rfl
        · rw [decide_eq_false c3]; rfl
    · rw [decide_eq_false c1, if_neg (by omega)]
      generalize decide ((n.val : ℤ) * 128 + r.val - (n.val * 128 - 128 + j.val) < 128) = u
      generalize decide (0 ≤ (n.val : ℤ) * 128 - 128 + j.val) = w
      revert u w
      decide
  rw [this]
  split <;> rfl

/-- A key of the window. -/
theorem keys_at (k : FVec Ideal S4x8192x2x64 .f32) (b : Fin 4) (n : Fin 64) (j : Fin 256) (g : Fin 2) (e : Fin 64)
    (h : 1 ≤ n.val ∨ 128 ≤ j.val) :
    val_main_v37 (F := Ideal) k (ix5 b n j g e) = k (ix4 b ⟨n.val * 128 + j.val - 128, by omega⟩ g e) := by
  pointwise [val_main_v37, val_main_v36, val_main_v35, val_main_v1]
  by_cases c : j.val < 128
  · rw [dif_pos c, dif_pos (by omega)]
    exact congrArg k (congrArg (fun p => ix4 b p g e) (Fin.ext (by show (n.val - 1) * 128 + j.val = n.val * 128 + j.val - 128; omega)))
  · rw [dif_neg c]
    exact congrArg k (congrArg (fun p => ix4 b p g e) (Fin.ext (by show n.val * 128 + (j.val - 128) = n.val * 128 + j.val - 128; omega)))

/-- A value of the window. -/
theorem values_at (v : FVec Ideal S4x8192x2x64 .f32) (b : Fin 4) (n : Fin 64) (j : Fin 256) (g : Fin 2) (e : Fin 64)
    (h : 1 ≤ n.val ∨ 128 ≤ j.val) :
    val_main_v40 (F := Ideal) v (ix5 b n j g e) = v (ix4 b ⟨n.val * 128 + j.val - 128, by omega⟩ g e) := by
  pointwise [val_main_v40, val_main_v39, val_main_v38, val_main_v2]
  by_cases c : j.val < 128
  · rw [dif_pos c, dif_pos (by omega)]
    exact congrArg v (congrArg (fun p => ix4 b p g e) (Fin.ext (by show (n.val - 1) * 128 + j.val = n.val * 128 + j.val - 128; omega)))
  · rw [dif_neg c]
    exact congrArg v (congrArg (fun p => ix4 b p g e) (Fin.ext (by show n.val * 128 + (j.val - 128) = n.val * 128 + j.val - 128; omega)))

/-- The masked score. -/
theorem score_at (q : FVec Ideal S4x8192x8x64 .f32) (k : FVec Ideal S4x8192x2x64 .f32)
    (b : Fin 4) (n : Fin 64) (g : Fin 2) (a : Fin 4) (r : Fin 128) (j : Fin 256) :
    val_main_v45 (F := Ideal) q k (ix6 b n g a r j)
      = if h : (r.val < j.val ∧ j.val ≤ r.val + 128 ∧ (1 ≤ n.val ∨ 128 ≤ j.val)) then
          score (fun e => q (ix4 b ⟨n.val * 128 + r.val, by omega⟩ ⟨g.val * 4 + a.val, by omega⟩ e))
            (fun e => k (ix4 b ⟨n.val * 128 + j.val - 128, by omega⟩ g e)) else ⊥ := by
  pointwise [val_main_v45, val_main_call2_v1, val_main_call2_v2, val_main_call2_v0, val_main_cst_5, val_main_v44, val_main_v43, val_main_cst, val_main_v42, val_main_v41, val_main_v34, val_main_v0]
  rw [mask_at]
  by_cases c : (r.val < j.val ∧ j.val ≤ r.val + 128 ∧ (1 ≤ n.val ∨ 128 ≤ j.val))
  · rw [if_pos c, dif_pos c]
    unfold score
    refine congrArg (· * _) (Finset.sum_congr rfl fun e _ => ?_)
    rw [keys_at k b n j g e c.2.2, mul_comm]
  · rw [if_neg c, dif_neg c]
    exact negInf

/-- The places the reduction over the keys reads. -/
theorem fiber (b : Fin 4) (n : Fin 64) (g : Fin 2) (a : Fin 4) (r : Fin 128) (i : S4x64x2x4x128x256.Idx) :
    (reducesTo_S4x64x2x4x128x256_S4x64x2x4x128_d5).drop i = ix5 b n g a r ↔ ∃ k : Fin 256, ix6 b n g a r k = i := by
  constructor
  · intro e
    refine ⟨i 5, ?_⟩
    funext x; apply Fin.ext
    match x with
    | ⟨0, _⟩ => exact (congrArg Fin.val (congrFun e 0)).symm
    | ⟨1, _⟩ => exact (congrArg Fin.val (congrFun e 1)).symm
    | ⟨2, _⟩ => exact (congrArg Fin.val (congrFun e 2)).symm
    | ⟨3, _⟩ => exact (congrArg Fin.val (congrFun e 3)).symm
    | ⟨4, _⟩ => exact (congrArg Fin.val (congrFun e 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- The largest score of a query. -/
theorem top_at (q : FVec Ideal S4x8192x8x64 .f32) (k : FVec Ideal S4x8192x2x64 .f32)
    (b : Fin 4) (n : Fin 64) (g : Fin 2) (a : Fin 4) (r : Fin 128) :
    val_main_v47 (F := Ideal) q k (ix5 b n g a r) = Finset.univ.fold max ⊥ fun j => val_main_v45 (F := Ideal) q k (ix6 b n g a r j) := by
  unfold val_main_v47
  generalize val_main_v45 (F := Ideal) q k = y
  refine (Host.reduce_eq_fold (α := EReal) max y _ _ _ _).trans ?_
  refine (Finset.fold_filter_eq_fold_of_fiber max _ (fun k : Fin 256 => ix6 b n g a r k) (fun _ _ e => congrFun e 5) (fiber b n g a r) _ y).trans ?_
  exact congrArg (fun z => Finset.univ.fold max z _) negInf

/-- A sum over the keys. -/
theorem keysum_at (y : FVec Ideal S4x64x2x4x128x256 .f32) (z : Ideal .f32)
    (b : Fin 4) (n : Fin 64) (g : Fin 2) (a : Fin 4) (r : Fin 128) :
    Ideal.hostReduceAdd reducesTo_S4x64x2x4x128x256_S4x64x2x4x128_d5 y z (ix5 b n g a r) = z + ∑ j : Fin 256, y (ix6 b n g a r j) := by
  unfold Ideal.hostReduceAdd
  refine congrArg (z + ·) ?_
  exact Finset.sum_filter_eq_sum_of_fiber _ (fun k : Fin 256 => ix6 b n g a r k) (fun _ _ e => congrFun e 5) (fiber b n g a r) y

/-- A head's sink. -/
theorem sink_at (s : FVec Ideal S8 .f32)
    (b : Fin 4) (n : Fin 64) (g : Fin 2) (a : Fin 4) (r : Fin 128) :
    val_main_v50 (F := Ideal) s (ix6 b n g a r 0) = s (ix1 ⟨g.val * 4 + a.val, by omega⟩) := by
  pointwise [val_main_v50, val_main_v49, val_main_v46]

/-- A row of the peaks. -/
theorem lift_at (y : FVec Ideal S4x64x2x4x128 .f32)
    (b : Fin 4) (n : Fin 64) (g : Fin 2) (a : Fin 4) (r : Fin 128) :
    broadcastInDim S4x64x2x4x128x1 ![0, 1, 2, 3, 4] bcast_S4x64x2x4x128_S4x64x2x4x128x1_0_1_2_3_4 y (ix6 b n g a r 0) = y (ix5 b n g a r) := by
  pointwise

/-- The larger of a row's top and the sink. -/
theorem peak_of (s : FVec Ideal S8 .f32) (y : FVec Ideal S4x64x2x4x128 .f32)
    (b : Fin 4) (n : Fin 64) (g : Fin 2) (a : Fin 4) (r : Fin 128) :
    maximumf (F := Ideal) (broadcastInDim S4x64x2x4x128x1 ![0, 1, 2, 3, 4] bcast_S4x64x2x4x128_S4x64x2x4x128x1_0_1_2_3_4 y) (val_main_v50 (F := Ideal) s) (ix6 b n g a r 0)
      = max (y (ix5 b n g a r)) (s (ix1 ⟨g.val * 4 + a.val, by omega⟩)) :=
  congrArg₂ max (lift_at y b n g a r) (sink_at s b n g a r)

/-- The peak of a query's scores and its head's sink. -/
theorem peak_at (s : FVec Ideal S8 .f32) (q : FVec Ideal S4x8192x8x64 .f32) (k : FVec Ideal S4x8192x2x64 .f32)
    (b : Fin 4) (n : Fin 64) (g : Fin 2) (a : Fin 4) (r : Fin 128) :
    val_main_v51 (F := Ideal) s q k (ix6 b n g a r 0)
      = max (Finset.univ.fold max ⊥ fun j => val_main_v45 (F := Ideal) q k (ix6 b n g a r j)) (s (ix1 ⟨g.val * 4 + a.val, by omega⟩)) := by
  rw [← top_at]
  exact peak_of s (val_main_v47 (F := Ideal) q k) b n g a r

/-- A weight before the division. -/
theorem exp_at (s : FVec Ideal S8 .f32) (q : FVec Ideal S4x8192x8x64 .f32) (k : FVec Ideal S4x8192x2x64 .f32)
    (b : Fin 4) (n : Fin 64) (g : Fin 2) (a : Fin 4) (r : Fin 128) (j : Fin 256) :
    val_main_v54 (F := Ideal) s q k (ix6 b n g a r j)
      = Ideal.exp (val_main_v45 (F := Ideal) q k (ix6 b n g a r j) - val_main_v51 (F := Ideal) s q k (ix6 b n g a r 0)) := by
  unfold val_main_v54 val_main_v53 val_main_v52
  generalize val_main_v51 (F := Ideal) s q k = y
  generalize val_main_v45 (F := Ideal) q k = z
  pointwise

/-- The sum of the weights of a query. -/
theorem sum_at (s : FVec Ideal S8 .f32) (q : FVec Ideal S4x8192x8x64 .f32) (k : FVec Ideal S4x8192x2x64 .f32)
    (b : Fin 4) (n : Fin 64) (g : Fin 2) (a : Fin 4) (r : Fin 128) :
    val_main_v55 (F := Ideal) s q k (ix5 b n g a r) = ∑ j, val_main_v54 (F := Ideal) s q k (ix6 b n g a r j) := by
  unfold val_main_v55
  generalize val_main_v54 (F := Ideal) s q k = y
  refine (keysum_at y _ b n g a r).trans ?_
  have : val_main_cst_7 (F := Ideal) (Shape.Idx.first h_S_) = (0 : EReal) := by pointwise [val_main_cst_7]
  rw [this, zero_add]

/-- The denominator of a query. -/
theorem den_at (s : FVec Ideal S8 .f32) (q : FVec Ideal S4x8192x8x64 .f32) (k : FVec Ideal S4x8192x2x64 .f32)
    (b : Fin 4) (n : Fin 64) (g : Fin 2) (a : Fin 4) (r : Fin 128) :
    val_main_v61 (F := Ideal) s q k (ix6 b n g a r 0) = ∑ j, val_main_v54 (F := Ideal) s q k (ix6 b n g a r j)
      + Ideal.exp (s (ix1 ⟨g.val * 4 + a.val, by omega⟩) - val_main_v51 (F := Ideal) s q k (ix6 b n g a r 0)) := by
  rw [← sum_at]
  unfold val_main_v61 val_main_v60 val_main_v59 val_main_v56
  generalize val_main_v51 (F := Ideal) s q k = y
  generalize val_main_v55 (F := Ideal) s q k = z
  pointwise [val_main_v58, val_main_v57, val_main_v46]

/-- A weight. -/
theorem weight_at (s : FVec Ideal S8 .f32) (q : FVec Ideal S4x8192x8x64 .f32) (k : FVec Ideal S4x8192x2x64 .f32)
    (b : Fin 4) (n : Fin 64) (g : Fin 2) (a : Fin 4) (r : Fin 128) (j : Fin 256) :
    val_main_v63 (F := Ideal) s q k (ix6 b n g a r j)
      = Ideal.div (val_main_v54 (F := Ideal) s q k (ix6 b n g a r j)) (val_main_v61 (F := Ideal) s q k (ix6 b n g a r 0)) := by
  unfold val_main_v63 val_main_v62
  generalize val_main_v61 (F := Ideal) s q k = y
  generalize val_main_v54 (F := Ideal) s q k = z
  pointwise

/-- The result before the heads are joined. -/
theorem out_at (s : FVec Ideal S8 .f32) (q : FVec Ideal S4x8192x8x64 .f32) (k v : FVec Ideal S4x8192x2x64 .f32)
    (b : Fin 4) (n : Fin 64) (r : Fin 128) (g : Fin 2) (a : Fin 4) (d : Fin 64) :
    val_main_v65 (F := Ideal) s q k v (ix6 b n r g a d)
      = whole (fun j => val_main_v45 (F := Ideal) q k (ix6 b n g a r j)) (s (ix1 ⟨g.val * 4 + a.val, by omega⟩))
          (fun j => val_main_v40 (F := Ideal) v (ix5 b n j g d)) := by
  have : val_main_v65 (F := Ideal) s q k v (ix6 b n r g a d)
      = ∑ j, val_main_v40 (F := Ideal) v (ix5 b n j g d) * val_main_v63 (F := Ideal) s q k (ix6 b n g a r j) := by
    unfold val_main_v65 val_main_v64
    generalize val_main_v40 (F := Ideal) v = y
    generalize val_main_v63 (F := Ideal) s q k = z
    pointwise
  rw [this]
  unfold whole
  refine Finset.sum_congr rfl fun j _ => ?_
  rw [weight_at, den_at]
  simp only [exp_at, peak_at]

/-- The result at an element. -/
theorem res_at (s : FVec Ideal S8 .f32) (q : FVec Ideal S4x8192x8x64 .f32) (k v : FVec Ideal S4x8192x2x64 .f32)
    (b : Fin 4) (n : Fin 64) (r : Fin 128) (h : Fin 8) (d : Fin 64) :
    val_main_v66 (F := Ideal) s q k v (ix3 b ⟨n.val * 128 + r.val, by omega⟩ ⟨h.val * 64 + d.val, by omega⟩)
      = val_main_v65 (F := Ideal) s q k v (ix6 b n r ⟨h.val / 4, by omega⟩ ⟨h.val % 4, by omega⟩ d) := by
  unfold val_main_v66
  generalize val_main_v65 (F := Ideal) s q k v = y
  pointwise
  exact congrArg y (congrArg₂ (fun p o => ix6 b n r p o d) (Fin.ext (by show (h.val * 64 + d.val) / 256 = h.val / 4; omega))
    (Fin.ext (by show (h.val * 64 + d.val) / 64 % 4 = h.val % 4; omega)))

end Cert.AttnRefIdeal.Cell
-- ==== Proof.AttnEq.lean ====
module

public import proofs.«01_k».proof.Proof.AttnArray
public import proofs.«01_k».proof.Proof.AttnRef

@[expose] public section

set_option maxRecDepth 16384

noncomputable section

/-! # The attention's reference is the array the kernel leaves, where sinks, queries and keys are reals -/

namespace AttnEq

open Idealize.ShloMosaic AttnMath
open Cert.AttnIdeal (S8 S4x8192x8x64 S4x8192x2x64 S4x8192x512)

/-- A score of real vectors is a real. -/
theorem score_real (q k : Fin 64 → EReal) (hq : ∀ e, ∃ r : ℝ, q e = (r : EReal)) (hk : ∀ e, ∃ r : ℝ, k e = (r : EReal)) :
    ∃ r : ℝ, score q k = (r : EReal) := by
  choose a ha using hq
  choose b hb using hk
  obtain ⟨c, hc⟩ := scale_real
  refine ⟨(∑ e, a e * b e) * c, ?_⟩
  unfold score
  rw [hc, EReal.coe_mul]
  refine congrArg (· * (c : EReal)) ?_
  rw [Finset.sum_congr rfl fun e _ => by rw [ha e, hb e, ← EReal.coe_mul]]
  exact (map_sum (⟨⟨Real.toEReal, rfl⟩, EReal.coe_add⟩ : ℝ →+ EReal) (fun e => a e * b e) Finset.univ).symm

/-- At an element of the result the reference is the kernel's attention. -/
theorem element (s : FVec Ideal S8 .f32) (q : FVec Ideal S4x8192x8x64 .f32) (k v : FVec Ideal S4x8192x2x64 .f32)
    (hs : ∀ i, ∃ r : ℝ, s i = (r : EReal)) (hq : ∀ i, ∃ r : ℝ, q i = (r : EReal)) (hk : ∀ i, ∃ r : ℝ, k i = (r : EReal))
    (b : Fin 4) (n : Fin 64) (r : Fin 128) (h : Fin 8) (d : Fin 64) :
    Cert.AttnRefIdeal.Read.val_main_v66 (F := Ideal) s q k v (ix3 b ⟨n.val * 128 + r.val, by omega⟩ ⟨h.val * 64 + d.val, by omega⟩)
      = Cert.AttnIdeal.Cell.attn s q k v b n r h d := by
  rw [Cert.AttnRefIdeal.Cell.res_at, Cert.AttnRefIdeal.Cell.out_at]
  obtain ⟨κ, hκ⟩ := hs (ix1 h)
  have eh : (⟨h.val / 4 * 4 + h.val % 4, by omega⟩ : Fin 8) = h := Fin.ext (by show h.val / 4 * 4 + h.val % 4 = h.val; omega)
  have esink : s (ix1 (⟨h.val / 4 * 4 + h.val % 4, by omega⟩ : Fin 8)) = (κ : EReal) := (congrArg s (congrArg ix1 eh)).trans hκ
  refine Eq.trans (congrArg (fun z => whole _ z _) esink) ?_
  unfold Cert.AttnIdeal.Cell.attn
  rw [hκ]
  refine whole_eq_cell _ _ _ _ _ _ κ ?_ ?_ ?_ ?_ ?_ ?_
  · intro j
    rw [Cert.AttnRefIdeal.Cell.score_at]
    by_cases c : 1 ≤ n.val ∧ r.val < j.val
    · rw [if_pos c, dif_pos (show r.val < j.val ∧ j.val ≤ r.val + 128 ∧ (1 ≤ n.val ∨ 128 ≤ j.val) by omega)]
      refine congrArg₂ score ?_ ?_ <;> funext e
      · exact congrArg q ((ix4_inj ..).2 ⟨rfl, rfl, eh, rfl⟩)
      · exact congrArg k ((ix4_inj ..).2 ⟨rfl, Fin.ext (by show n.val * 128 + j.val - 128 = (n.val - 1) * 128 + j.val; omega), rfl, rfl⟩)
    · rw [if_neg c, dif_neg (show ¬ (r.val < j.val ∧ j.val ≤ r.val + 128 ∧ (1 ≤ n.val ∨ 128 ≤ j.val)) by omega)]
  · intro j
    rw [Cert.AttnRefIdeal.Cell.score_at]
    by_cases c : j.val ≤ r.val
    · rw [if_pos c, dif_pos (show r.val < 128 + j.val ∧ 128 + j.val ≤ r.val + 128 ∧ (1 ≤ n.val ∨ 128 ≤ 128 + j.val) by omega)]
      refine congrArg₂ score ?_ ?_ <;> funext e
      · exact congrArg q ((ix4_inj ..).2 ⟨rfl, rfl, eh, rfl⟩)
      · exact congrArg k ((ix4_inj ..).2 ⟨rfl, Fin.ext (by show n.val * 128 + (128 + j.val) - 128 = n.val * 128 + j.val; omega), rfl, rfl⟩)
    · rw [if_neg c, dif_neg (show ¬ (r.val < 128 + j.val ∧ 128 + j.val ≤ r.val + 128 ∧ (1 ≤ n.val ∨ 128 ≤ 128 + j.val)) by omega)]
  · intro j
    split
    · exact Or.inr (score_real _ _ (fun e => hq _) (fun e => hk _))
    · exact Or.inl rfl
  · intro j
    split
    · exact Or.inr (score_real _ _ (fun e => hq _) (fun e => hk _))
    · exact Or.inl rfl
  · intro j
    by_cases c : 1 ≤ n.val ∧ r.val < j.val
    · refine Or.inr ?_
      rw [Cert.AttnRefIdeal.Cell.values_at _ _ _ _ _ _ (Or.inl c.1)]
      exact congrArg v ((ix4_inj ..).2 ⟨rfl, Fin.ext (by show n.val * 128 + j.val - 128 = (n.val - 1) * 128 + j.val; omega), rfl, rfl⟩)
    · exact Or.inl (if_neg c)
  · intro j
    rw [Cert.AttnRefIdeal.Cell.values_at _ _ _ _ _ _ (Or.inr (by show 128 ≤ 128 + j.val; omega))]
    exact congrArg v ((ix4_inj ..).2 ⟨rfl, Fin.ext (by show n.val * 128 + (128 + j.val) - 128 = n.val * 128 + j.val; omega), rfl, rfl⟩)

/-- The reference's array is the kernel's. -/
theorem array (s : FVec Ideal S8 .f32) (q : FVec Ideal S4x8192x8x64 .f32) (k v : FVec Ideal S4x8192x2x64 .f32)
    (hs : ∀ i, ∃ r : ℝ, s i = (r : EReal)) (hq : ∀ i, ∃ r : ℝ, q i = (r : EReal)) (hk : ∀ i, ∃ r : ℝ, k i = (r : EReal)) :
    Cert.AttnRefIdeal.Read.val_main_v66 (F := Ideal) s q k v = Cert.AttnIdeal.Cell.attnArray s q k v := by
  funext i
  have h1 : (i 1).val < 8192 := (i 1).isLt
  have h2 : (i 2).val < 512 := (i 2).isLt
  have e : i = (ix3 (i 0) ⟨(i 1).val / 128 * 128 + (i 1).val % 128, by omega⟩ ⟨(i 2).val / 64 * 64 + (i 2).val % 64, by omega⟩ : S4x8192x512.Idx) := by
    refine (eq_ix3 i).trans ((ix3_inj ..).2 ⟨rfl, Fin.ext ?_, Fin.ext ?_⟩)
    · show (i 1).val = (i 1).val / 128 * 128 + (i 1).val % 128; omega
    · show (i 2).val = (i 2).val / 64 * 64 + (i 2).val % 64; omega
  exact (congrArg _ e).trans (element s q k v hs hq hk (i 0) ⟨(i 1).val / 128, by omega⟩ ⟨(i 1).val % 128, by omega⟩
    ⟨(i 2).val / 64, by omega⟩ ⟨(i 2).val % 64, by omega⟩)

end AttnEq
-- ==== Proof.Finite.lean ====
module

public import proofs.«01_k».proof.Pre_finite_scores
public import proofs.«01_k».proof.Proof.AttnMath
public import Idealize.ShloMosaic.Lib.Pointwise

@[expose] public section

set_option maxRecDepth 16384

noncomputable section

/-! # What the precondition says: sinks, queries and keys are reals -/

namespace Cert.Pre_finite_scores

open Idealize.ShloMosaic

/-- The predicate's side conditions. -/
theorem facts : Facts where
  bcast_S_S8 := by decide
  bcast_S_S4x8192x8x64 := by decide
  bcast_S_S4x8192x2x64 := by decide

variable [Facts]

/-- An extended real whose magnitude is below +∞ is a real. -/
theorem real_of_lt (x : EReal) (h : BitVec.ofBool (decide (FloatOps.absf (F := Ideal) (φ := .f32) x < Ideal.ofBits FTy.f32 2139095040#32)) = 1#1) :
    ∃ r : ℝ, x = (r : EReal) := by
  rw [show Ideal.ofBits FTy.f32 2139095040#32 = (⊤ : EReal) from AttnMath.posInf] at h
  induction x with
  | bot => exact absurd h (by simp [FloatOps.absf])
  | coe r => exact ⟨r, rfl⟩
  | top => exact absurd h (by simp [FloatOps.absf])

/-- Every sink is a real. -/
theorem sinks_real (s : FVec Ideal S8 .f32) (q : FVec Ideal S4x8192x8x64 .f32) (k v : FVec Ideal S4x8192x2x64 .f32)
    (h : (fn (F := Ideal) s q k v).1 = fun _ => 1#1) (i : S8.Idx) : ∃ r : ℝ, s i = (r : EReal) := by
  have e := congrFun h i
  unfold fn at e
  pointwise at e
  exact real_of_lt _ e

/-- Every query element is a real. -/
theorem queries_real (s : FVec Ideal S8 .f32) (q : FVec Ideal S4x8192x8x64 .f32) (k v : FVec Ideal S4x8192x2x64 .f32)
    (h : (fn (F := Ideal) s q k v).2.1 = fun _ => 1#1) (i : S4x8192x8x64.Idx) : ∃ r : ℝ, q i = (r : EReal) := by
  have e := congrFun h i
  unfold fn at e
  pointwise at e
  exact real_of_lt _ e

/-- Every key element is a real. -/
theorem keys_real (s : FVec Ideal S8 .f32) (q : FVec Ideal S4x8192x8x64 .f32) (k v : FVec Ideal S4x8192x2x64 .f32)
    (h : (fn (F := Ideal) s q k v).2.2 = fun _ => 1#1) (i : S4x8192x2x64.Idx) : ∃ r : ℝ, k i = (r : EReal) := by
  have e := congrFun h i
  unfold fn at e
  pointwise at e
  exact real_of_lt _ e

end Cert.Pre_finite_scores
-- ==== Proof.AttnClaims.lean ====
module

public import proofs.«01_k».proof.Defs
public import proofs.«01_k».proof.Proof.Gen.Attn
public import proofs.«01_k».proof.Proof.Gen.Attn.Frame
public import proofs.«01_k».proof.Proof.Gen.AttnIdeal
public import proofs.«01_k».proof.Proof.Gen.AttnIdeal.Frame
public import proofs.«01_k».proof.Proof.Gen.AttnIdeal.Value
public import proofs.«01_k».proof.Proof.Gen.AttnRefIdeal
public import proofs.«01_k».proof.Proof.Gen.AttnRefIdeal.Run
public import proofs.«01_k».proof.Proof.Gen.AttnRefIdeal.Read
public import proofs.«01_k».proof.Proof.AttnEq
public import proofs.«01_k».proof.Proof.Finite
public import Idealize.ShloMosaic.Lib.Pipeline.ValueKit
public import Idealize.ShloMosaic.Lib.Claim

@[expose] public section

set_option maxRecDepth 16384

noncomputable section

/-! # The attention's claims -/

namespace Cert.AttnClaims

open Idealize.ShloMosaic Idealize.SL.Sem

instance : Cert.Pre_finite_scores.Facts := Cert.Pre_finite_scores.facts

/-- The kernel's frame over bits. -/
theorem frame_bits : Cert.quiescent_Attn := fun m ρ _ => Cert.Attn.Gen.frame m ρ

/-- The kernel's frame over the reals. -/
theorem frame_ideal : Cert.quiescent_AttnIdeal := fun m ρ _ => Cert.AttnIdeal.Gen.frame m ρ

/-- The kernel's frame under the precondition. -/
theorem frame_ideal_pre : Cert.quiescent_AttnIdeal_pre_finite_scores := fun m ρ _ => Cert.AttnIdeal.Gen.frame m ρ

/-- The reference's run keeps its arguments and every counter at zero. -/
theorem frame_ref : Cert.quiescent_AttnRefIdeal := fun m ρ _ =>
  (θ_run Cert.AttnRefIdeal.defs _ _).mono
    (fun r h => ⟨fun c => (h c).2, Idealize.ShloMosaic.sem_eq_zero_of_no_sems (by decide) r.2⟩)
    (Cert.AttnRefIdeal.Value.run (F := Ideal) m ρ)

/-- The reference's frame under the precondition. -/
theorem frame_ref_pre : Cert.quiescent_AttnRefIdeal_pre_finite_scores := fun m ρ _ => frame_ref m ρ trivial

/-- The mask's constant stands for minus infinity. -/
theorem preserves : Cert.preserves_Attn_AttnIdeal :=
  IdealRules.named_const.statement Cert.AttnIdeal.κ "mask" .f32 0xF149F2CA#32 ⊥ rfl

/-- From agreeing arguments with real sinks, queries and keys the kernel's result is the reference's. -/
theorem algebraic : Cert.algebraic_AttnIdeal_AttnRefIdeal_pre_finite_scores := by
  pair_intro
  · run_from Cert.AttnIdeal.Gen.run_main m g
  · run_from Cert.AttnRefIdeal.Value.run (F := Ideal) m' g'
    obtain ⟨h0, h1, h2, h3⟩ := hagree c
    have hp := hpre c
    rw [Cert.AttnRefIdeal.Read.val_main_v66_eq, h0, h1, h2, h3]
    exact (AttnEq.array _ _ _ _ (Cert.Pre_finite_scores.sinks_real _ _ _ _ hp.1) (Cert.Pre_finite_scores.queries_real _ _ _ _ hp.2.1)
      (Cert.Pre_finite_scores.keys_real _ _ _ _ hp.2.2)).trans (Cert.AttnIdeal.Cell.final m c).symm

end Cert.AttnClaims
-- ==== Proof.FfnMath.lean ====
module

public import Idealize.ShloMosaic.Lib.Pointwise
public import Idealize.ShloMosaic.Lib.Pipeline.ValueKit

@[expose] public section

set_option maxRecDepth 16384

noncomputable section

/-! # The feed-forward layer on one row -/

namespace FfnMath

open Idealize.ShloMosaic

/-- The root mean square norm of a row: each entry times the inverse root of the mean square plus the small constant. -/
def rms (x : Fin 1024 → EReal) (e : Fin 1024) : EReal :=
  x e * Ideal.rsqrt (Ideal.div (∑ k, x k * x k) (Ideal.ofBits .f32 0x44800000#32) + Ideal.ofBits .f32 0x3727C5AC#32)

/-- The modulated norm of a row. -/
def modNorm (x nw sc sh : Fin 1024 → EReal) (e : Fin 1024) : EReal :=
  rms x e * nw e * (1 + sc e) + sh e

/-- The gated activation. -/
def act (g u : EReal) : EReal := g * Ideal.logistic g * u

/-- One entry of a row times a weight matrix. -/
def dot {n : ℕ} (h w : Fin n → EReal) : EReal := ∑ k, h k * w k

/-- The gated layer's output entry, over all columns of the hidden layer. -/
def swiglu (h : Fin 1024 → EReal) (wg wu : Fin 2816 → Fin 1024 → EReal) (wd : Fin 2816 → EReal) : EReal :=
  ∑ j, act (dot h (wg j)) (dot h (wu j)) * wd j

/-- The same over one tile of 256 columns of the hidden layer. -/
def part (h : Fin 1024 → EReal) (wg wu : Fin 256 → Fin 1024 → EReal) (wd : Fin 256 → EReal) : EReal :=
  ∑ j, act (dot h (wg j)) (dot h (wu j)) * wd j

/-- The gated layer is the sum of its eleven tiles. -/
theorem swiglu_tiles (h : Fin 1024 → EReal) (wg wu : Fin 2816 → Fin 1024 → EReal) (wd : Fin 2816 → EReal) :
    swiglu h wg wu wd = ∑ t : Fin 11, part h (fun j => wg ⟨t.val * 256 + j.val, by omega⟩)
      (fun j => wu ⟨t.val * 256 + j.val, by omega⟩) (fun j => wd ⟨t.val * 256 + j.val, by omega⟩) := by
  unfold swiglu part
  exact Fin.sum_univ_tiles 11 256 rfl _

/-- The layer's output entry: the row's entry plus half the gate times the gated layer. -/
def ffn (x nw sc sh gt : Fin 1024 → EReal) (wg wu : Fin 2816 → Fin 1024 → EReal) (wd : Fin 1024 → Fin 2816 → EReal) (e : Fin 1024) : EReal :=
  x e + Ideal.ofBits .f32 0x3F000000#32 * gt e * swiglu (modNorm x nw sc sh) wg wu (wd e)

/-- The layer at an entry of the arrays: sequence `b`, step `s`, column `e`; its shift, scale and gate are the modulation's
    chunks from `base` on. -/
def ffnAt {B S : ℕ} (base : Fin 7) (x : FVec Ideal ⟨3, ![B, S, 1024]⟩ .f32) (mods : FVec Ideal ⟨2, ![B, 9216]⟩ .f32)
    (nw : FVec Ideal ⟨1, ![1024]⟩ .f32) (wgu : FVec Ideal ⟨2, ![1024, 5632]⟩ .f32) (wd : FVec Ideal ⟨2, ![2816, 1024]⟩ .f32)
    (b : Fin B) (s : Fin S) (e : Fin 1024) : EReal :=
  ffn (fun k => x (ix3 b s k)) (fun k => nw (ix1 k))
    (fun k => mods (ix2 b ⟨(base.val + 1) * 1024 + k.val, by omega⟩)) (fun k => mods (ix2 b ⟨base.val * 1024 + k.val, by omega⟩))
    (fun k => mods (ix2 b ⟨(base.val + 2) * 1024 + k.val, by omega⟩))
    (fun j k => wgu (ix2 k ⟨j.val, by omega⟩)) (fun j k => wgu (ix2 k ⟨2816 + j.val, by omega⟩)) (fun k j => wd (ix2 j k)) e

/-- The layer with the last norm after it. -/
def ffnFinalAt {B S : ℕ} (base : Fin 7) (x : FVec Ideal ⟨3, ![B, S, 1024]⟩ .f32) (mods : FVec Ideal ⟨2, ![B, 9216]⟩ .f32)
    (nw : FVec Ideal ⟨1, ![1024]⟩ .f32) (wgu : FVec Ideal ⟨2, ![1024, 5632]⟩ .f32) (wd : FVec Ideal ⟨2, ![2816, 1024]⟩ .f32)
    (fn : FVec Ideal ⟨1, ![1024]⟩ .f32) (b : Fin B) (s : Fin S) (e : Fin 1024) : EReal :=
  rms (ffnAt base x mods nw wgu wd b s) e * fn (ix1 e)

end FfnMath

end
-- ==== Proof.FfnBlock.lean ====
module

public import proofs.«01_k».proof.Proof.Gen.FfnIdeal.Value
public import proofs.«01_k».proof.Proof.FfnMath
public import Idealize.ShloMosaic.Lib.Pipeline.ValueKit
public import Idealize.ShloMosaic.Lib.Claim

@[expose] public section

set_option maxRecDepth 16384

noncomputable section

/-! # What the feed-forward kernel's body stores -/

namespace Cert.FfnIdeal.Cell

open Cert.FfnIdeal Cert.FfnIdeal.Gen Idealize.ShloMosaic Idealize.ShloMosaic.TcCoe Idealize.SL.Sem
open FfnMath

/-- The normed and modulated row. -/
theorem hidden_at (x : Vec Ideal S1x512x1024 .f32) (nw sc sh : Vec Ideal S1x1x1024 .f32) (r : Fin 512) (e : Fin 1024) :
    k0_pay3 (F := Ideal) x nw sc sh (ix2 r e)
      = modNorm (fun k => x (ix3 0 r k)) (fun k => nw (ix3 0 0 k)) (fun k => sc (ix3 0 0 k)) (fun k => sh (ix3 0 0 k)) e := by
  unfold modNorm rms
  pointwise [k0_pay3]

/-- One entry of what a tile of the hidden layer contributes. -/
def tile (h : Vec Ideal S512x1024 .bf16) (wg wu : Vec Ideal S1024x256 .bf16) (wd : Vec Ideal S256x1024 .bf16)
    (r : Fin 512) (e : Fin 1024) : EReal :=
  part (fun k => h (ix2 r k)) (fun j k => wg (ix2 k j)) (fun j k => wu (ix2 k j)) (fun j => wd (ix2 j e))

section
variable (h : Vec Ideal S512x1024 .bf16) (wg wu : Vec Ideal S1024x256 .bf16) (wd : Vec Ideal S256x1024 .bf16)
  (a : Vec Ideal S512x1024 .f32) (r : Fin 512) (e : Fin 1024)

/-- The first tile starts the accumulator. -/
theorem tile0_at : k0_pay5 (F := Ideal) h (k0_pay4 h wg) wu wd (ix2 r e) = tile h wg wu wd r e := by
  unfold tile part act dot
  pointwise [k0_pay5, k0_pay4]

/-- The second tile is added. -/
theorem tile1_at : k0_pay6 (F := Ideal) h wg wu wd a (ix2 r e) = a (ix2 r e) + tile h wg wu wd r e := by
  unfold tile part act dot
  pointwise [k0_pay6]

/-- The third tile is added. -/
theorem tile2_at : k0_pay7 (F := Ideal) h wg wu wd a (ix2 r e) = a (ix2 r e) + tile h wg wu wd r e := by
  unfold tile part act dot
  pointwise [k0_pay7]

/-- The fourth tile is added. -/
theorem tile3_at : k0_pay9 (F := Ideal) (k0_pay8 h wg wu wd) a (ix2 r e) = a (ix2 r e) + tile h wg wu wd r e := by
  unfold tile part act dot
  pointwise [k0_pay9, k0_pay8]

/-- The fifth tile is added. -/
theorem tile4_at : k0_pay10 (F := Ideal) h wg wu wd a (ix2 r e) = a (ix2 r e) + tile h wg wu wd r e := by
  unfold tile part act dot
  pointwise [k0_pay10]

/-- The sixth tile is added. -/
theorem tile5_at : k0_pay12 (F := Ideal) (k0_pay11 h wg wu) wd a (ix2 r e) = a (ix2 r e) + tile h wg wu wd r e := by
  unfold tile part act dot
  pointwise [k0_pay12, k0_pay11]

/-- The seventh tile is added. -/
theorem tile6_at : k0_pay13 (F := Ideal) h wg wu wd a (ix2 r e) = a (ix2 r e) + tile h wg wu wd r e := by
  unfold tile part act dot
  pointwise [k0_pay13]

/-- The eighth tile is added. -/
theorem tile7_at : k0_pay15 (F := Ideal) h (k0_pay14 wg) (constant S512x256 FTy.f32 0#32) wu wd a (ix2 r e) = a (ix2 r e) + tile h wg wu wd r e := by
  unfold tile part act dot
  pointwise [k0_pay15, k0_pay14]

/-- The ninth tile is added. -/
theorem tile8_at : k0_pay17 (F := Ideal) (k0_pay16 h wg wu wd a) (ix2 r e) = a (ix2 r e) + tile h wg wu wd r e := by
  unfold tile part act dot
  pointwise [k0_pay17, k0_pay16]

/-- The tenth tile is added. -/
theorem tile9_at : k0_pay18 (F := Ideal) h wg wu wd a (ix2 r e) = a (ix2 r e) + tile h wg wu wd r e := by
  unfold tile part act dot
  pointwise [k0_pay18]

/-- The last tile is added. -/
theorem tile10_at : k0_pay1 (F := Ideal) (k0_pay19 h wg wu) (k0_pay20 wd) a (ix2 r e) = a (ix2 r e) + tile h wg wu wd r e := by
  unfold tile part act dot
  pointwise [k0_pay1, k0_pay19, k0_pay20]

end

/-- The accumulator after all eleven tiles. -/
def acc (h : Vec Ideal S512x1024 .bf16) (wgu : Vec Ideal S1024x5632 .bf16) (wd : Vec Ideal S2816x1024 .bf16) : Vec Ideal S512x1024 .f32 :=
  let a0 := k0_pay5 h (k0_pay4 h (View.ld wgu (Rect.unit ![0, 0] ![1024, 256] inb_S1024x5632_S1024x256_0_0))) (View.ld wgu (Rect.unit ![0, 2816] ![1024, 256] inb_S1024x5632_S1024x256_0_2816)) (View.ld wd (Rect.unit ![0, 0] ![256, 1024] inb_S2816x1024_S256x1024_0_0))
  let a1 := k0_pay6 h (View.ld wgu (Rect.unit ![0, 256] ![1024, 256] inb_S1024x5632_S1024x256_0_256)) (View.ld wgu (Rect.unit ![0, 3072] ![1024, 256] inb_S1024x5632_S1024x256_0_3072)) (View.ld wd (Rect.unit ![256, 0] ![256, 1024] inb_S2816x1024_S256x1024_256_0)) a0
  let a2 := k0_pay7 h (View.ld wgu (Rect.unit ![0, 512] ![1024, 256] inb_S1024x5632_S1024x256_0_512)) (View.ld wgu (Rect.unit ![0, 3328] ![1024, 256] inb_S1024x5632_S1024x256_0_3328)) (View.ld wd (Rect.unit ![512, 0] ![256, 1024] inb_S2816x1024_S256x1024_512_0)) a1
  let a3 := k0_pay9 (k0_pay8 h (View.ld wgu (Rect.unit ![0, 768] ![1024, 256] inb_S1024x5632_S1024x256_0_768)) (View.ld wgu (Rect.unit ![0, 3584] ![1024, 256] inb_S1024x5632_S1024x256_0_3584)) (View.ld wd (Rect.unit ![768, 0] ![256, 1024] inb_S2816x1024_S256x1024_768_0))) a2
  let a4 := k0_pay10 h (View.ld wgu (Rect.unit ![0, 1024] ![1024, 256] inb_S1024x5632_S1024x256_0_1024)) (View.ld wgu (Rect.unit ![0, 3840] ![1024, 256] inb_S1024x5632_S1024x256_0_3840)) (View.ld wd (Rect.unit ![1024, 0] ![256, 1024] inb_S2816x1024_S256x1024_1024_0)) a3
  let a5 := k0_pay12 (k0_pay11 h (View.ld wgu (Rect.unit ![0, 1280] ![1024, 256] inb_S1024x5632_S1024x256_0_1280)) (View.ld wgu (Rect.unit ![0, 4096] ![1024, 256] inb_S1024x5632_S1024x256_0_4096))) (View.ld wd (Rect.unit ![1280, 0] ![256, 1024] inb_S2816x1024_S256x1024_1280_0)) a4
  let a6 := k0_pay13 h (View.ld wgu (Rect.unit ![0, 1536] ![1024, 256] inb_S1024x5632_S1024x256_0_1536)) (View.ld wgu (Rect.unit ![0, 4352] ![1024, 256] inb_S1024x5632_S1024x256_0_4352)) (View.ld wd (Rect.unit ![1536, 0] ![256, 1024] inb_S2816x1024_S256x1024_1536_0)) a5
  let a7 := k0_pay15 h (k0_pay14 (View.ld wgu (Rect.unit ![0, 1792] ![1024, 256] inb_S1024x5632_S1024x256_0_1792))) (constant S512x256 FTy.f32 0#32) (View.ld wgu (Rect.unit ![0, 4608] ![1024, 256] inb_S1024x5632_S1024x256_0_4608)) (View.ld wd (Rect.unit ![1792, 0] ![256, 1024] inb_S2816x1024_S256x1024_1792_0)) a6
  let a8 := k0_pay17 (k0_pay16 h (View.ld wgu (Rect.unit ![0, 2048] ![1024, 256] inb_S1024x5632_S1024x256_0_2048)) (View.ld wgu (Rect.unit ![0, 4864] ![1024, 256] inb_S1024x5632_S1024x256_0_4864)) (View.ld wd (Rect.unit ![2048, 0] ![256, 1024] inb_S2816x1024_S256x1024_2048_0)) a7)
  let a9 := k0_pay18 h (View.ld wgu (Rect.unit ![0, 2304] ![1024, 256] inb_S1024x5632_S1024x256_0_2304)) (View.ld wgu (Rect.unit ![0, 5120] ![1024, 256] inb_S1024x5632_S1024x256_0_5120)) (View.ld wd (Rect.unit ![2304, 0] ![256, 1024] inb_S2816x1024_S256x1024_2304_0)) a8
  k0_pay1 (k0_pay19 h (View.ld wgu (Rect.unit ![0, 2560] ![1024, 256] inb_S1024x5632_S1024x256_0_2560)) (View.ld wgu (Rect.unit ![0, 5376] ![1024, 256] inb_S1024x5632_S1024x256_0_5376))) (k0_pay20 (View.ld wd (Rect.unit ![2560, 0] ![256, 1024] inb_S2816x1024_S256x1024_2560_0))) a9

/-- A tile of the columns of the first weight matrix. -/
theorem cols_at (w : Vec Ideal S1024x5632 .bf16) (o : ℕ) (ho : o + 256 ≤ 5632) (hb) (k : Fin 1024) (j : Fin 256) :
    View.ld w (Rect.unit ![0, o] ![1024, 256] hb) (ix2 k j) = w (ix2 k ⟨o + j.val, by omega⟩) := by
  pointwise

/-- A tile of the rows of the second weight matrix. -/
theorem rows_at (w : Vec Ideal S2816x1024 .bf16) (o : ℕ) (ho : o + 256 ≤ 2816) (hb) (j : Fin 256) (e : Fin 1024) :
    View.ld w (Rect.unit ![o, 0] ![256, 1024] hb) (ix2 j e) = w (ix2 ⟨o + j.val, by omega⟩ e) := by
  pointwise

/-- Tile `t` of the gated layer's entry. -/
def tileOf (h : Vec Ideal S512x1024 .bf16) (wgu : Vec Ideal S1024x5632 .bf16) (wd : Vec Ideal S2816x1024 .bf16)
    (r : Fin 512) (e : Fin 1024) (t : Fin 11) : EReal :=
  part (fun k => h (ix2 r k)) (fun j k => wgu (ix2 k ⟨t.val * 256 + j.val, by omega⟩))
    (fun j k => wgu (ix2 k ⟨2816 + (t.val * 256 + j.val), by omega⟩)) (fun j => wd (ix2 ⟨t.val * 256 + j.val, by omega⟩ e))

/-- The tile the body loads at the offsets of tile `t`. -/
theorem tile_eq (h : Vec Ideal S512x1024 .bf16) (wgu : Vec Ideal S1024x5632 .bf16) (wd : Vec Ideal S2816x1024 .bf16)
    (r : Fin 512) (e : Fin 1024) (t : Fin 11) (o p q : ℕ) (hb hb' hb'') (ho : o = t.val * 256) (hp : p = 2816 + t.val * 256)
    (hq : q = t.val * 256) :
    tile h (View.ld wgu (Rect.unit ![0, o] ![1024, 256] hb)) (View.ld wgu (Rect.unit ![0, p] ![1024, 256] hb'))
      (View.ld wd (Rect.unit ![q, 0] ![256, 1024] hb'')) r e = tileOf h wgu wd r e t := by
  subst ho hp hq
  have ht := t.isLt
  unfold tile tileOf
  simp only [cols_at wgu (t.val * 256) (by omega), cols_at wgu (2816 + t.val * 256) (by omega), rows_at wd (t.val * 256) (by omega), Nat.add_assoc]

/-- The accumulator holds the gated layer's entry. -/
theorem acc_at (h : Vec Ideal S512x1024 .bf16) (wgu : Vec Ideal S1024x5632 .bf16) (wd : Vec Ideal S2816x1024 .bf16) (r : Fin 512) (e : Fin 1024) :
    acc h wgu wd (ix2 r e) = swiglu (fun k => h (ix2 r k)) (fun j k => wgu (ix2 k ⟨j.val, by omega⟩))
      (fun j k => wgu (ix2 k ⟨2816 + j.val, by omega⟩)) (fun j => wd (ix2 j e)) := by
  rw [swiglu_tiles]
  change _ = ∑ t, tileOf h wgu wd r e t
  unfold acc
  simp only [tile0_at, tile1_at, tile2_at, tile3_at, tile4_at, tile5_at, tile6_at, tile7_at, tile8_at, tile9_at, tile10_at]
  rw [tile_eq h wgu wd r e 0 0 2816 0 _ _ _ rfl rfl rfl,
    tile_eq h wgu wd r e 1 256 3072 256 _ _ _ rfl rfl rfl,
    tile_eq h wgu wd r e 2 512 3328 512 _ _ _ rfl rfl rfl,
    tile_eq h wgu wd r e 3 768 3584 768 _ _ _ rfl rfl rfl,
    tile_eq h wgu wd r e 4 1024 3840 1024 _ _ _ rfl rfl rfl,
    tile_eq h wgu wd r e 5 1280 4096 1280 _ _ _ rfl rfl rfl,
    tile_eq h wgu wd r e 6 1536 4352 1536 _ _ _ rfl rfl rfl,
    tile_eq h wgu wd r e 7 1792 4608 1792 _ _ _ rfl rfl rfl,
    tile_eq h wgu wd r e 8 2048 4864 2048 _ _ _ rfl rfl rfl,
    tile_eq h wgu wd r e 9 2304 5120 2304 _ _ _ rfl rfl rfl,
    tile_eq h wgu wd r e 10 2560 5376 2560 _ _ _ rfl rfl rfl]
  simp only [Fin.sum_univ_castSucc, Fin.sum_univ_zero, zero_add]
  rfl

/-- What the body stores, at an entry. -/
theorem stored_at (x : Vec Ideal S1x512x1024 .f32) (nw sc sh gt : Vec Ideal S1x1x1024 .f32) (wgu : Vec Ideal S1024x5632 .bf16)
    (wd : Vec Ideal S2816x1024 .bf16) (r : Fin 512) (e : Fin 1024) :
    k0_pay2 (F := Ideal) x gt (acc (k0_pay3 x nw sc sh) wgu wd) (ix3 0 r e)
      = ffn (fun k => x (ix3 0 r k)) (fun k => nw (ix3 0 0 k)) (fun k => sc (ix3 0 0 k)) (fun k => sh (ix3 0 0 k)) (fun k => gt (ix3 0 0 k))
          (fun j k => wgu (ix2 k ⟨j.val, by omega⟩)) (fun j k => wgu (ix2 k ⟨2816 + j.val, by omega⟩)) (fun k j => wd (ix2 j k)) e := by
  unfold ffn
  have h := acc_at (k0_pay3 (F := Ideal) x nw sc sh) wgu wd r e
  simp only [hidden_at] at h
  rw [← h]
  generalize acc _ _ _ = a
  pointwise [k0_pay2]

end Cert.FfnIdeal.Cell

end
-- ==== Proof.FfnFinalArray.lean ====
module

public import proofs.«01_k».proof.Proof.Gen.FfnFinalIdeal.Value
public import proofs.«01_k».proof.Proof.FfnBlock
public import Idealize.ShloMosaic.Lib.Pipeline.ValueKit
public import Idealize.ShloMosaic.Lib.Claim

@[expose] public section

set_option maxRecDepth 16384

noncomputable section

/-! # The last feed-forward kernel's result array -/

namespace Cert.FfnFinalIdeal.Cell

open Cert.FfnFinalIdeal Cert.FfnFinalIdeal.Gen Idealize.ShloMosaic Idealize.ShloMosaic.TcCoe Idealize.SL.Sem
open Idealize.ShloMosaic.Pipeline (Dat)
open FfnMath

variable (m : (ℓ : Loc nD τ sig) → Buf (Elt Ideal) ℓ)

/-- Every window's block index at a grid point. -/
theorem idx : ∀ t : Fin cfg0.N, win0_0.index t = ![t.val / 16, t.val % 16, 0] ∧ win0_1.index t = ![t.val / 16, 0, 6]
    ∧ win0_2.index t = ![t.val / 16, 0, 7] ∧ win0_3.index t = ![t.val / 16, 0, 8] ∧ win0_4.index t = ![0, 0, 0]
    ∧ win0_5.index t = ![0, 0] ∧ win0_6.index t = ![0, 0] ∧ win0_7.index t = ![0, 0, 0] ∧ win0_8.index t = ![t.val / 16, t.val % 16, 0] :=
  (by decide +kernel : ∀ t : Fin grid0.N, _)

/-- The rows of the residual stream at a grid point. -/
theorem x_at (c : Dev nD) (t : Fin cfg0.N) (r : Fin 512) (e : Fin 1024) :
    (iblk m c 0 t : FVec Ideal S1x512x1024 .f32) (ix3 0 r e)
      = (m ((c : Thread nD τ).loc main_arg0) : FVec Ideal S4x8192x1024 .f32)
          (ix3 ⟨t.val / 16, by have : cfg0.N = 64 := N_0; omega⟩ ⟨t.val % 16 * 512 + r.val, by omega⟩ e) := by
  blk_point [iblk, V, idx t]

/-- The shift at a grid point. -/
theorem sh_at (c : Dev nD) (t : Fin cfg0.N) (e : Fin 1024) :
    (iblk m c 1 t : FVec Ideal S1x1x1024 .f32) (ix3 0 0 e)
      = (m ((c : Thread nD τ).loc main_arg1) : FVec Ideal S4x9216 .f32)
          (ix2 ⟨t.val / 16, by have : cfg0.N = 64 := N_0; omega⟩ ⟨6 * 1024 + e.val, by omega⟩) := by
  blk_point [iblk, V, idx t]

/-- The scale at a grid point. -/
theorem sc_at (c : Dev nD) (t : Fin cfg0.N) (e : Fin 1024) :
    (iblk m c 2 t : FVec Ideal S1x1x1024 .f32) (ix3 0 0 e)
      = (m ((c : Thread nD τ).loc main_arg1) : FVec Ideal S4x9216 .f32)
          (ix2 ⟨t.val / 16, by have : cfg0.N = 64 := N_0; omega⟩ ⟨(6 + 1) * 1024 + e.val, by omega⟩) := by
  blk_point [iblk, V, idx t]

/-- The gate at a grid point. -/
theorem gt_at (c : Dev nD) (t : Fin cfg0.N) (e : Fin 1024) :
    (iblk m c 3 t : FVec Ideal S1x1x1024 .f32) (ix3 0 0 e)
      = (m ((c : Thread nD τ).loc main_arg1) : FVec Ideal S4x9216 .f32)
          (ix2 ⟨t.val / 16, by have : cfg0.N = 64 := N_0; omega⟩ ⟨(6 + 2) * 1024 + e.val, by omega⟩) := by
  blk_point [iblk, V, idx t]

/-- The norm's weight is staged whole. -/
theorem nw_at (c : Dev nD) (t : Fin cfg0.N) (e : Fin 1024) :
    (iblk m c 4 t : FVec Ideal S1x1x1024 .f32) (ix3 0 0 e)
      = (m ((c : Thread nD τ).loc main_arg2) : FVec Ideal S1024 .f32) (ix1 e) := by
  blk_point [iblk, V, idx t]

/-- The first weight matrix is staged whole. -/
theorem wgu_at (c : Dev nD) (t : Fin cfg0.N) (k : Fin 1024) (j : Fin 5632) :
    (iblk m c 5 t : FVec Ideal S1024x5632 .bf16) (ix2 k j)
      = (m ((c : Thread nD τ).loc main_arg3) : FVec Ideal S1024x5632 .f32) (ix2 k j) := by
  blk_point [iblk, V, idx t]

/-- The second weight matrix is staged whole. -/
theorem wd_at (c : Dev nD) (t : Fin cfg0.N) (j : Fin 2816) (e : Fin 1024) :
    (iblk m c 6 t : FVec Ideal S2816x1024 .bf16) (ix2 j e)
      = (m ((c : Thread nD τ).loc main_arg4) : FVec Ideal S2816x1024 .f32) (ix2 j e) := by
  blk_point [iblk, V, idx t]

/-- The last norm's weight is staged whole. -/
theorem fn_at (c : Dev nD) (t : Fin cfg0.N) (e : Fin 1024) :
    (iblk m c 7 t : FVec Ideal S1x1x1024 .f32) (ix3 0 0 e)
      = (m ((c : Thread nD τ).loc main_arg5) : FVec Ideal S1024 .f32) (ix1 e) := by
  blk_point [iblk, V, idx t]

/-- What the body stores, at an entry: the accumulator and the row before the last norm are the other feed-forward layer's. -/
theorem stored_at (x : Vec Ideal S1x512x1024 .f32) (nw sc sh gt fn : Vec Ideal S1x1x1024 .f32) (wgu : Vec Ideal S1024x5632 .bf16)
    (wd : Vec Ideal S2816x1024 .bf16) (r : Fin 512) (e : Fin 1024) :
    k0_pay2 (F := Ideal) x gt (Cert.FfnIdeal.Cell.acc (k0_pay3 x nw sc sh) wgu wd) fn (ix3 0 r e)
      = rms (ffn (fun k => x (ix3 0 r k)) (fun k => nw (ix3 0 0 k)) (fun k => sc (ix3 0 0 k)) (fun k => sh (ix3 0 0 k)) (fun k => gt (ix3 0 0 k))
          (fun j k => wgu (ix2 k ⟨j.val, by omega⟩)) (fun j k => wgu (ix2 k ⟨2816 + j.val, by omega⟩)) (fun k j => wd (ix2 j k))) e * fn (ix3 0 0 e) := by
  have h : ∀ k : Fin 1024, Cert.FfnIdeal.Gen.k0_pay2 (F := Ideal) x gt (Cert.FfnIdeal.Cell.acc (k0_pay3 x nw sc sh) wgu wd) (ix3 0 r k)
      = _ := fun k => Cert.FfnIdeal.Cell.stored_at x nw sc sh gt wgu wd r k
  rw [← funext h]
  generalize Cert.FfnIdeal.Cell.acc _ _ _ = a
  unfold rms
  pointwise [k0_pay2, Cert.FfnIdeal.Gen.k0_pay2]

/-- The layer's result as one array. -/
def ffnFinalArray (x : FVec Ideal S4x8192x1024 .f32) (mods : FVec Ideal S4x9216 .f32) (nw : FVec Ideal S1024 .f32)
    (wgu : FVec Ideal S1024x5632 .f32) (wd : FVec Ideal S2816x1024 .f32) (fn : FVec Ideal S1024 .f32) : FVec Ideal S4x8192x1024 .f32 :=
  fun i => ffnFinalAt 6 x mods nw wgu wd fn (i 0) (i 1) (i 2)

set_option maxHeartbeats 1600000 in
/-- The result array after the run. -/
theorem final (c : Dev nD) : (dats m 0 c).arrAt 8 (cfgs 0).N
    = ffnFinalArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  unfold outsAt0
  frame_out
  have hN : t.val < 64 := N_0 ▸ t.isLt
  have hy : ∃ (r : Fin 512) (e : Fin 1024), y = ix3 0 r e :=
    ⟨y 1, y 2, (eq_ix3 y).trans ((ix3_inj ..).2 ⟨Subsingleton.elim (α := Fin 1) _ _, rfl, rfl⟩)⟩
  obtain ⟨r, e, rfl⟩ := hy
  have he : ((View.whole main_v5).slice (win0_8.rect t)).emb (ix3 0 r e)
      = ix3 (⟨t.val / 16, by omega⟩ : Fin 4) (⟨t.val % 16 * 512 + r.val, by omega⟩ : Fin 8192) e := by
    blk_ext [idx t]
  refine Eq.trans ?_ (congrArg _ he).symm
  refine (stored_at (iblk m c 0 t) (iblk m c 4 t) (iblk m c 2 t) (iblk m c 1 t) (iblk m c 3 t) (iblk m c 7 t) (iblk m c 5 t) (iblk m c 6 t) r e).trans ?_
  simp only [x_at, sh_at, sc_at, gt_at, nw_at, wgu_at, wd_at, fn_at]
  rfl

end Cert.FfnFinalIdeal.Cell

end
-- ==== Proof.FfnFinalRef.lean ====
module

public import proofs.«01_k».proof.Proof.Gen.FfnFinalRefIdeal.Read
public import proofs.«01_k».proof.Proof.FfnMath
public import Idealize.ShloMosaic.Lib.Pointwise

@[expose] public section

set_option maxRecDepth 16384

noncomputable section

/-! # The last feed-forward reference at an entry -/

namespace Cert.FfnFinalRefIdeal.Cell

open Cert.FfnFinalRefIdeal Cert.FfnFinalRefIdeal.Read Idealize.ShloMosaic
open FfnMath

variable (x : FVec Ideal S4x8192x1024 .f32) (mods : FVec Ideal S4x9216 .f32) (nw : FVec Ideal S1024 .f32)
  (wgu : FVec Ideal S1024x5632 .f32) (wd : FVec Ideal S2816x1024 .f32)

/-- The shift. -/
theorem shift_at (b : Fin 4) (e : Fin 1024) :
    val_main_v14 (F := Ideal) mods (ix3 b 0 e) = mods (ix2 b ⟨6 * 1024 + e.val, by omega⟩) := by
  pointwise [val_main_v14, val_main_v13, val_main_v0]

/-- The scale. -/
theorem scale_at (b : Fin 4) (e : Fin 1024) :
    val_main_v16 (F := Ideal) mods (ix3 b 0 e) = mods (ix2 b ⟨(6 + 1) * 1024 + e.val, by omega⟩) := by
  pointwise [val_main_v16, val_main_v15, val_main_v0]

/-- Half the gate. -/
theorem gate_at (b : Fin 4) (e : Fin 1024) :
    val_main_v20 (F := Ideal) mods (ix3 b 0 e)
      = Ideal.ofBits .f32 0x3F000000#32 * mods (ix2 b ⟨(6 + 2) * 1024 + e.val, by omega⟩) := by
  pointwise [val_main_v20, val_main_v19, val_main_cst, val_main_v18, val_main_v17, val_main_v0]

/-- The normed row. -/
theorem rms_at (b : Fin 4) (s : Fin 8192) (e : Fin 1024) :
    val_main_v30 (F := Ideal) x (ix3 b s e) = rms (fun k => x (ix3 b s k)) e := by
  unfold rms
  pointwise [val_main_v30, val_main_v29, val_main_v28, val_main_v27, val_main_v26, val_main_cst_2, val_main_v25, val_main_v24,
    val_main_cst_1, val_main_v23, val_main_v22, val_main_cst_0, val_main_v21]

/-- The normed and modulated row. -/
theorem hidden_at (b : Fin 4) (s : Fin 8192) (e : Fin 1024) :
    val_main_v39 (F := Ideal) x mods nw (ix3 b s e)
      = modNorm (fun k => x (ix3 b s k)) (fun k => nw (ix1 k)) (fun k => mods (ix2 b ⟨(6 + 1) * 1024 + k.val, by omega⟩))
          (fun k => mods (ix2 b ⟨6 * 1024 + k.val, by omega⟩)) e := by
  unfold modNorm
  beta_reduce
  rw [← rms_at, ← shift_at mods b e, ← scale_at mods b e]
  unfold val_main_v39 val_main_v38 val_main_v37 val_main_v36 val_main_v35 val_main_v33
  generalize val_main_v30 (F := Ideal) x = y
  generalize val_main_v14 (F := Ideal) mods = p
  generalize val_main_v16 (F := Ideal) mods = q
  pointwise [val_main_v32, val_main_v31, val_main_v34, val_main_cst_3]

/-- One entry of the first matrix product. -/
theorem prod_at (b : Fin 4) (s : Fin 8192) (j : Fin 5632) :
    val_main_v40 (F := Ideal) x mods nw wgu (ix3 b s j)
      = dot (fun k => val_main_v39 (F := Ideal) x mods nw (ix3 b s k)) (fun k => wgu (ix2 k j)) := by
  unfold val_main_v40 dot
  generalize val_main_v39 (F := Ideal) x mods nw = y
  pointwise

/-- One gated activation. -/
theorem act_at (b : Fin 4) (s : Fin 8192) (j : Fin 2816) :
    val_main_v44 (F := Ideal) x mods nw wgu (ix3 b s j)
      = act (val_main_v40 (F := Ideal) x mods nw wgu (ix3 b s ⟨j.val, by omega⟩))
          (val_main_v40 (F := Ideal) x mods nw wgu (ix3 b s ⟨2816 + j.val, by omega⟩)) := by
  unfold val_main_v44 val_main_v43 val_main_call0_v5 val_main_call0_v3 val_main_call0_v1 val_main_call0_v0 val_main_v42 val_main_v41 act Ideal.logistic
  generalize val_main_v40 (F := Ideal) x mods nw wgu = y
  pointwise [val_main_call0_v4, val_main_call0_cst_0, val_main_call0_v2, val_main_call0_cst]

/-- The row before the last norm. -/
theorem pre_at (b : Fin 4) (s : Fin 8192) (e : Fin 1024) :
    val_main_v48 (F := Ideal) x mods nw wgu wd (ix3 b s e) = ffnAt 6 x mods nw wgu wd b s e := by
  refine Eq.trans ?_ (show ffn (fun k => x (ix3 b s k)) (fun k => nw (ix1 k)) (fun k => mods (ix2 b ⟨(6 + 1) * 1024 + k.val, by omega⟩))
    (fun k => mods (ix2 b ⟨6 * 1024 + k.val, by omega⟩)) (fun k => mods (ix2 b ⟨(6 + 2) * 1024 + k.val, by omega⟩))
    (fun j k => wgu (ix2 k ⟨j.val, by omega⟩)) (fun j k => wgu (ix2 k ⟨2816 + j.val, by omega⟩)) (fun k j => wd (ix2 j k)) e = _ from rfl)
  unfold ffn swiglu
  beta_reduce
  rw [← gate_at mods b e, ← funext fun k => hidden_at x mods nw b s k]
  simp only [← prod_at x mods nw wgu b s, ← act_at x mods nw wgu b s]
  unfold val_main_v48 val_main_v47 val_main_v46 val_main_v45
  generalize val_main_v44 (F := Ideal) x mods nw wgu = y
  generalize val_main_v20 (F := Ideal) mods = g
  pointwise

/-- The result at an entry: the last norm of the row before it. -/
theorem res_at (fn : FVec Ideal S1024 .f32) (b : Fin 4) (s : Fin 8192) (e : Fin 1024) :
    val_main_v61 (F := Ideal) x mods nw wgu wd fn (ix3 b s e) = ffnFinalAt 6 x mods nw wgu wd fn b s e := by
  unfold ffnFinalAt
  rw [← funext fun k => pre_at x mods nw wgu wd b s k]
  unfold val_main_v61 val_main_v58 val_main_v57 val_main_v56 val_main_v55 val_main_v53 val_main_v51 val_main_v50 val_main_v49 rms
  generalize val_main_v48 (F := Ideal) x mods nw wgu wd = y
  pointwise [val_main_v60, val_main_v59, val_main_v54, val_main_cst_6, val_main_v52, val_main_cst_5, val_main_cst_4]

end Cert.FfnFinalRefIdeal.Cell

end
-- ==== Proof.FfnFinalClaims.lean ====
module

public import proofs.«01_k».proof.Defs
public import proofs.«01_k».proof.Proof.Gen.FfnFinal
public import proofs.«01_k».proof.Proof.Gen.FfnFinal.Frame
public import proofs.«01_k».proof.Proof.Gen.FfnFinalIdeal
public import proofs.«01_k».proof.Proof.Gen.FfnFinalIdeal.Frame
public import proofs.«01_k».proof.Proof.Gen.FfnFinalIdeal.Value
public import proofs.«01_k».proof.Proof.Gen.FfnFinalRefIdeal
public import proofs.«01_k».proof.Proof.Gen.FfnFinalRefIdeal.Run
public import proofs.«01_k».proof.Proof.Gen.FfnFinalRefIdeal.Read
public import proofs.«01_k».proof.Proof.FfnFinalArray
public import proofs.«01_k».proof.Proof.FfnFinalRef
public import Idealize.ShloMosaic.Lib.Pipeline.ValueKit
public import Idealize.ShloMosaic.Lib.Claim

@[expose] public section

set_option maxRecDepth 16384

noncomputable section

/-! # The last feed-forward layer's claims -/

namespace Cert.FfnFinalClaims

open Idealize.ShloMosaic Idealize.SL.Sem

/-- The kernel's frame over bits. -/
theorem frame_bits : Cert.quiescent_FfnFinal := fun m ρ _ => Cert.FfnFinal.Gen.frame m ρ

/-- The kernel's frame over the reals. -/
theorem frame_ideal : Cert.quiescent_FfnFinalIdeal := fun m ρ _ => Cert.FfnFinalIdeal.Gen.frame m ρ

/-- The reference's run keeps its arguments and every counter at zero. -/
theorem frame_ref : Cert.quiescent_FfnFinalRefIdeal := fun m ρ _ =>
  (θ_run Cert.FfnFinalRefIdeal.defs _ _).mono
    (fun r h => ⟨fun c => (h c).2, Idealize.ShloMosaic.sem_eq_zero_of_no_sems (by decide) r.2⟩)
    (Cert.FfnFinalRefIdeal.Value.run (F := Ideal) m ρ)

/-- Nothing is rewritten. -/
theorem preserves : Cert.preserves_FfnFinal_FfnFinalIdeal := trivial

/-- The reference's result is the same array. -/
theorem array (x : FVec Ideal Cert.FfnFinalRefIdeal.S4x8192x1024 .f32) (mods : FVec Ideal Cert.FfnFinalRefIdeal.S4x9216 .f32)
    (nw : FVec Ideal Cert.FfnFinalRefIdeal.S1024 .f32) (wgu : FVec Ideal Cert.FfnFinalRefIdeal.S1024x5632 .f32)
    (wd : FVec Ideal Cert.FfnFinalRefIdeal.S2816x1024 .f32)
    (fn : FVec Ideal Cert.FfnFinalRefIdeal.S1024 .f32) :
    Cert.FfnFinalRefIdeal.Read.val_main_v61 (F := Ideal) x mods nw wgu wd fn = Cert.FfnFinalIdeal.Cell.ffnFinalArray x mods nw wgu wd fn := by
  funext i
  exact (congrArg _ (eq_ix3 i)).trans (Cert.FfnFinalRefIdeal.Cell.res_at x mods nw wgu wd fn (i 0) (i 1) (i 2))

/-- From agreeing arguments the kernel's result is the reference's. -/
theorem algebraic : Cert.algebraic_FfnFinalIdeal_FfnFinalRefIdeal := by
  pair_intro
  · run_from Cert.FfnFinalIdeal.Gen.run_main m g
  · run_from Cert.FfnFinalRefIdeal.Value.run (F := Ideal) m' g'
    obtain ⟨h0, h1, h2, h3, h4, h5⟩ := hagree c
    rw [Cert.FfnFinalRefIdeal.Read.val_main_v61_eq, h0, h1, h2, h3, h4, h5]
    exact (array _ _ _ _ _ _).trans (Cert.FfnFinalIdeal.Cell.final m c).symm

end Cert.FfnFinalClaims

end
-- ==== Proof.FfnArray.lean ====
module

public import proofs.«01_k».proof.Proof.Gen.FfnIdeal.Value
public import proofs.«01_k».proof.Proof.FfnBlock
public import Idealize.ShloMosaic.Lib.Pipeline.ValueKit
public import Idealize.ShloMosaic.Lib.Claim

@[expose] public section

set_option maxRecDepth 16384

noncomputable section

/-! # The feed-forward kernel's result array -/

namespace Cert.FfnIdeal.Cell

open Cert.FfnIdeal Cert.FfnIdeal.Gen Idealize.ShloMosaic Idealize.ShloMosaic.TcCoe Idealize.SL.Sem
open Idealize.ShloMosaic.Pipeline (Dat)
open FfnMath

variable (m : (ℓ : Loc nD τ sig) → Buf (Elt Ideal) ℓ)

/-- Every window's block index at a grid point. -/
theorem idx : ∀ t : Fin cfg0.N, win0_0.index t = ![t.val / 16, t.val % 16, 0] ∧ win0_1.index t = ![t.val / 16, 0, 0]
    ∧ win0_2.index t = ![t.val / 16, 0, 1] ∧ win0_3.index t = ![t.val / 16, 0, 2] ∧ win0_4.index t = ![0, 0, 0]
    ∧ win0_5.index t = ![0, 0] ∧ win0_6.index t = ![0, 0] ∧ win0_8.index t = ![t.val / 16, t.val % 16, 0] :=
  (by decide +kernel : ∀ t : Fin grid0.N, _)

/-- The rows of the residual stream at a grid point. -/
theorem x_at (c : Dev nD) (t : Fin cfg0.N) (r : Fin 512) (e : Fin 1024) :
    (iblk m c 0 t : FVec Ideal S1x512x1024 .f32) (ix3 0 r e)
      = (m ((c : Thread nD τ).loc main_arg0) : FVec Ideal S4x8192x1024 .f32)
          (ix3 ⟨t.val / 16, by have : cfg0.N = 64 := N_0; omega⟩ ⟨t.val % 16 * 512 + r.val, by omega⟩ e) := by
  blk_point [iblk, V, idx t]

/-- The shift at a grid point. -/
theorem sh_at (c : Dev nD) (t : Fin cfg0.N) (e : Fin 1024) :
    (iblk m c 1 t : FVec Ideal S1x1x1024 .f32) (ix3 0 0 e)
      = (m ((c : Thread nD τ).loc main_arg1) : FVec Ideal S4x9216 .f32)
          (ix2 ⟨t.val / 16, by have : cfg0.N = 64 := N_0; omega⟩ ⟨0 * 1024 + e.val, by omega⟩) := by
  blk_point [iblk, V, idx t]

/-- The scale at a grid point. -/
theorem sc_at (c : Dev nD) (t : Fin cfg0.N) (e : Fin 1024) :
    (iblk m c 2 t : FVec Ideal S1x1x1024 .f32) (ix3 0 0 e)
      = (m ((c : Thread nD τ).loc main_arg1) : FVec Ideal S4x9216 .f32)
          (ix2 ⟨t.val / 16, by have : cfg0.N = 64 := N_0; omega⟩ ⟨(0 + 1) * 1024 + e.val, by omega⟩) := by
  blk_point [iblk, V, idx t]

/-- The gate at a grid point. -/
theorem gt_at (c : Dev nD) (t : Fin cfg0.N) (e : Fin 1024) :
    (iblk m c 3 t : FVec Ideal S1x1x1024 .f32) (ix3 0 0 e)
      = (m ((c : Thread nD τ).loc main_arg1) : FVec Ideal S4x9216 .f32)
          (ix2 ⟨t.val / 16, by have : cfg0.N = 64 := N_0; omega⟩ ⟨(0 + 2) * 1024 + e.val, by omega⟩) := by
  blk_point [iblk, V, idx t]

/-- The norm's weight is staged whole. -/
theorem nw_at (c : Dev nD) (t : Fin cfg0.N) (e : Fin 1024) :
    (iblk m c 4 t : FVec Ideal S1x1x1024 .f32) (ix3 0 0 e)
      = (m ((c : Thread nD τ).loc main_arg2) : FVec Ideal S1024 .f32) (ix1 e) := by
  blk_point [iblk, V, idx t]

/-- The first weight matrix is staged whole. -/
theorem wgu_at (c : Dev nD) (t : Fin cfg0.N) (k : Fin 1024) (j : Fin 5632) :
    (iblk m c 5 t : FVec Ideal S1024x5632 .bf16) (ix2 k j)
      = (m ((c : Thread nD τ).loc main_arg3) : FVec Ideal S1024x5632 .f32) (ix2 k j) := by
  blk_point [iblk, V, idx t]

/-- The second weight matrix is staged whole. -/
theorem wd_at (c : Dev nD) (t : Fin cfg0.N) (j : Fin 2816) (e : Fin 1024) :
    (iblk m c 6 t : FVec Ideal S2816x1024 .bf16) (ix2 j e)
      = (m ((c : Thread nD τ).loc main_arg4) : FVec Ideal S2816x1024 .f32) (ix2 j e) := by
  blk_point [iblk, V, idx t]

/-- The layer's result as one array. -/
def ffnArray (x : FVec Ideal S4x8192x1024 .f32) (mods : FVec Ideal S4x9216 .f32) (nw : FVec Ideal S1024 .f32)
    (wgu : FVec Ideal S1024x5632 .f32) (wd : FVec Ideal S2816x1024 .f32) : FVec Ideal S4x8192x1024 .f32 :=
  fun i => ffnAt 0 x mods nw wgu wd (i 0) (i 1) (i 2)

set_option maxHeartbeats 1600000 in
/-- The result array after the run. -/
theorem final (c : Dev nD) : (dats m 0 c).arrAt 8 (cfgs 0).N
    = ffnArray (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 8 _ (by decide +kernel) fun t _ y => ?_
  blk_simp
  rw [after0_8]
  unfold outsAt0
  frame_out
  have hN : t.val < 64 := N_0 ▸ t.isLt
  have hy : ∃ (r : Fin 512) (e : Fin 1024), y = ix3 0 r e :=
    ⟨y 1, y 2, (eq_ix3 y).trans ((ix3_inj ..).2 ⟨Subsingleton.elim (α := Fin 1) _ _, rfl, rfl⟩)⟩
  obtain ⟨r, e, rfl⟩ := hy
  have he : ((View.whole main_v5).slice (win0_8.rect t)).emb (ix3 0 r e)
      = ix3 (⟨t.val / 16, by omega⟩ : Fin 4) (⟨t.val % 16 * 512 + r.val, by omega⟩ : Fin 8192) e := by
    blk_ext [idx t]
  refine Eq.trans ?_ (congrArg _ he).symm
  refine (stored_at (iblk m c 0 t) (iblk m c 4 t) (iblk m c 2 t) (iblk m c 1 t) (iblk m c 3 t) (iblk m c 5 t) (iblk m c 6 t) r e).trans ?_
  simp only [x_at, sh_at, sc_at, gt_at, nw_at, wgu_at, wd_at]
  rfl

end Cert.FfnIdeal.Cell

end
-- ==== Proof.FfnRef.lean ====
module

public import proofs.«01_k».proof.Proof.Gen.FfnRefIdeal.Read
public import proofs.«01_k».proof.Proof.FfnMath
public import Idealize.ShloMosaic.Lib.Pointwise

@[expose] public section

set_option maxRecDepth 16384

noncomputable section

/-! # The feed-forward reference at an entry -/

namespace Cert.FfnRefIdeal.Cell

open Cert.FfnRefIdeal Cert.FfnRefIdeal.Read Idealize.ShloMosaic
open FfnMath

variable (x : FVec Ideal S4x8192x1024 .f32) (mods : FVec Ideal S4x9216 .f32) (nw : FVec Ideal S1024 .f32)
  (wgu : FVec Ideal S1024x5632 .f32) (wd : FVec Ideal S2816x1024 .f32)

/-- The shift. -/
theorem shift_at (b : Fin 4) (e : Fin 1024) :
    val_main_v2 (F := Ideal) mods (ix3 b 0 e) = mods (ix2 b ⟨0 * 1024 + e.val, by omega⟩) := by
  pointwise [val_main_v2, val_main_v1, val_main_v0]

/-- The scale. -/
theorem scale_at (b : Fin 4) (e : Fin 1024) :
    val_main_v4 (F := Ideal) mods (ix3 b 0 e) = mods (ix2 b ⟨(0 + 1) * 1024 + e.val, by omega⟩) := by
  pointwise [val_main_v4, val_main_v3, val_main_v0]

/-- Half the gate. -/
theorem gate_at (b : Fin 4) (e : Fin 1024) :
    val_main_v20 (F := Ideal) mods (ix3 b 0 e)
      = Ideal.ofBits .f32 0x3F000000#32 * mods (ix2 b ⟨(0 + 2) * 1024 + e.val, by omega⟩) := by
  pointwise [val_main_v20, val_main_v19, val_main_cst, val_main_v6, val_main_v5, val_main_v0]

/-- The normed row. -/
theorem rms_at (b : Fin 4) (s : Fin 8192) (e : Fin 1024) :
    val_main_v30 (F := Ideal) x (ix3 b s e) = rms (fun k => x (ix3 b s k)) e := by
  unfold rms
  pointwise [val_main_v30, val_main_v29, val_main_v28, val_main_v27, val_main_v26, val_main_cst_2, val_main_v25, val_main_v24,
    val_main_cst_1, val_main_v23, val_main_v22, val_main_cst_0, val_main_v21]

/-- The normed and modulated row. -/
theorem hidden_at (b : Fin 4) (s : Fin 8192) (e : Fin 1024) :
    val_main_v39 (F := Ideal) x mods nw (ix3 b s e)
      = modNorm (fun k => x (ix3 b s k)) (fun k => nw (ix1 k)) (fun k => mods (ix2 b ⟨(0 + 1) * 1024 + k.val, by omega⟩))
          (fun k => mods (ix2 b ⟨0 * 1024 + k.val, by omega⟩)) e := by
  unfold modNorm
  beta_reduce
  rw [← rms_at, ← shift_at mods b e, ← scale_at mods b e]
  unfold val_main_v39 val_main_v38 val_main_v37 val_main_v36 val_main_v35 val_main_v33
  generalize val_main_v30 (F := Ideal) x = y
  generalize val_main_v2 (F := Ideal) mods = p
  generalize val_main_v4 (F := Ideal) mods = q
  pointwise [val_main_v32, val_main_v31, val_main_v34, val_main_cst_3]

/-- One entry of the first matrix product. -/
theorem prod_at (b : Fin 4) (s : Fin 8192) (j : Fin 5632) :
    val_main_v40 (F := Ideal) x mods nw wgu (ix3 b s j)
      = dot (fun k => val_main_v39 (F := Ideal) x mods nw (ix3 b s k)) (fun k => wgu (ix2 k j)) := by
  unfold val_main_v40 dot
  generalize val_main_v39 (F := Ideal) x mods nw = y
  pointwise

/-- One gated activation. -/
theorem act_at (b : Fin 4) (s : Fin 8192) (j : Fin 2816) :
    val_main_v44 (F := Ideal) x mods nw wgu (ix3 b s j)
      = act (val_main_v40 (F := Ideal) x mods nw wgu (ix3 b s ⟨j.val, by omega⟩))
          (val_main_v40 (F := Ideal) x mods nw wgu (ix3 b s ⟨2816 + j.val, by omega⟩)) := by
  unfold val_main_v44 val_main_v43 val_main_call0_v5 val_main_call0_v3 val_main_call0_v1 val_main_call0_v0 val_main_v42 val_main_v41 act Ideal.logistic
  generalize val_main_v40 (F := Ideal) x mods nw wgu = y
  pointwise [val_main_call0_v4, val_main_call0_cst_0, val_main_call0_v2, val_main_call0_cst]

/-- The result at an entry. -/
theorem res_at (b : Fin 4) (s : Fin 8192) (e : Fin 1024) :
    val_main_v48 (F := Ideal) x mods nw wgu wd (ix3 b s e) = ffnAt 0 x mods nw wgu wd b s e := by
  refine Eq.trans ?_ (show ffn (fun k => x (ix3 b s k)) (fun k => nw (ix1 k)) (fun k => mods (ix2 b ⟨(0 + 1) * 1024 + k.val, by omega⟩))
    (fun k => mods (ix2 b ⟨0 * 1024 + k.val, by omega⟩)) (fun k => mods (ix2 b ⟨(0 + 2) * 1024 + k.val, by omega⟩))
    (fun j k => wgu (ix2 k ⟨j.val, by omega⟩)) (fun j k => wgu (ix2 k ⟨2816 + j.val, by omega⟩)) (fun k j => wd (ix2 j k)) e = _ from rfl)
  unfold ffn swiglu
  beta_reduce
  rw [← gate_at mods b e, ← funext fun k => hidden_at x mods nw b s k]
  simp only [← prod_at x mods nw wgu b s, ← act_at x mods nw wgu b s]
  unfold val_main_v48 val_main_v47 val_main_v46 val_main_v45
  generalize val_main_v44 (F := Ideal) x mods nw wgu = y
  generalize val_main_v20 (F := Ideal) mods = g
  pointwise

end Cert.FfnRefIdeal.Cell

end
-- ==== Proof.FfnClaims.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnArray
public import proofs.«01_k».proof.Proof.FfnRef
public import Idealize.ShloMosaic.Lib.Pipeline.ValueKit
public import Idealize.ShloMosaic.Lib.Claim

@[expose] public section

set_option maxRecDepth 16384

noncomputable section

/-! # The first feed-forward layer's claims -/

namespace Cert.FfnClaims

open Idealize.ShloMosaic Idealize.SL.Sem

/-- The kernel's frame over bits. -/
theorem frame_bits : Cert.quiescent_Ffn := fun m ρ _ => Cert.Ffn.Gen.frame m ρ

/-- The kernel's frame over the reals. -/
theorem frame_ideal : Cert.quiescent_FfnIdeal := fun m ρ _ => Cert.FfnIdeal.Gen.frame m ρ

/-- The reference's run keeps its arguments and every counter at zero. -/
theorem frame_ref : Cert.quiescent_FfnRefIdeal := fun m ρ _ =>
  (θ_run Cert.FfnRefIdeal.defs _ _).mono
    (fun r h => ⟨fun c => (h c).2, Idealize.ShloMosaic.sem_eq_zero_of_no_sems (by decide) r.2⟩)
    (Cert.FfnRefIdeal.Value.run (F := Ideal) m ρ)

/-- Nothing is rewritten. -/
theorem preserves : Cert.preserves_Ffn_FfnIdeal := trivial

/-- The reference's result is the same array. -/
theorem array (x : FVec Ideal Cert.FfnRefIdeal.S4x8192x1024 .f32) (mods : FVec Ideal Cert.FfnRefIdeal.S4x9216 .f32)
    (nw : FVec Ideal Cert.FfnRefIdeal.S1024 .f32) (wgu : FVec Ideal Cert.FfnRefIdeal.S1024x5632 .f32)
    (wd : FVec Ideal Cert.FfnRefIdeal.S2816x1024 .f32) :
    Cert.FfnRefIdeal.Read.val_main_v48 (F := Ideal) x mods nw wgu wd = Cert.FfnIdeal.Cell.ffnArray x mods nw wgu wd := by
  funext i
  exact (congrArg _ (eq_ix3 i)).trans (Cert.FfnRefIdeal.Cell.res_at x mods nw wgu wd (i 0) (i 1) (i 2))

/-- From agreeing arguments the kernel's result is the reference's. -/
theorem algebraic : Cert.algebraic_FfnIdeal_FfnRefIdeal := by
  pair_intro
  · run_from Cert.FfnIdeal.Gen.run_main m g
  · run_from Cert.FfnRefIdeal.Value.run (F := Ideal) m' g'
    obtain ⟨h0, h1, h2, h3, h4, h5⟩ := hagree c
    rw [Cert.FfnRefIdeal.Read.val_main_v48_eq, h0, h1, h2, h3, h4]
    exact (array _ _ _ _ _).trans (Cert.FfnIdeal.Cell.final m c).symm

end Cert.FfnClaims

end
-- ==== Proof.FfnSampleArray.lean ====
module

public import proofs.«01_k».proof.Proof.Gen.FfnSampleIdeal.Value
public import proofs.«01_k».proof.Proof.FfnBlock
public import Idealize.ShloMosaic.Lib.Pipeline.ValueKit
public import Idealize.ShloMosaic.Lib.Claim

@[expose] public section

set_option maxRecDepth 16384

noncomputable section

/-! # The last feed-forward (sample) kernel's result array -/

namespace Cert.FfnSampleIdeal.Cell

open Cert.FfnSampleIdeal Cert.FfnSampleIdeal.Gen Idealize.ShloMosaic Idealize.ShloMosaic.TcCoe Idealize.SL.Sem
open Idealize.ShloMosaic.Pipeline (Dat)
open FfnMath

variable (m : (ℓ : Loc nD τ sig) → Buf (Elt Ideal) ℓ)

/-- Every window's block index at a grid point. -/
theorem idx : ∀ t : Fin cfg0.N, win0_0.index t = ![t.val, 0, 0] ∧ win0_1.index t = ![t.val, 0, 6]
    ∧ win0_2.index t = ![t.val, 0, 7] ∧ win0_3.index t = ![t.val, 0, 8] ∧ win0_4.index t = ![0, 0, 0]
    ∧ win0_5.index t = ![0, 0] ∧ win0_6.index t = ![0, 0] ∧ win0_7.index t = ![0, 0, 0] ∧ win0_8.index t = ![t.val, 0, 0] :=
  (by decide +kernel : ∀ t : Fin grid0.N, _)

/-- The rows of the residual stream at a grid point. -/
theorem x_at (c : Dev nD) (t : Fin cfg0.N) (a : Fin 64) (i : Fin 8) (e : Fin 1024) :
    (iblk m c 0 t : FVec Ideal S64x8x1024 .f32) (ix3 a i e)
      = (m ((c : Thread nD τ).loc main_arg0) : FVec Ideal S128x8x1024 .f32)
          (ix3 ⟨t.val * 64 + a.val, by have : cfg0.N = 2 := N_0; omega⟩ i e) := by
  blk_point [iblk, V, idx t]

/-- The shift at a grid point. -/
theorem sh_at (c : Dev nD) (t : Fin cfg0.N) (a : Fin 64) (e : Fin 1024) :
    (iblk m c 1 t : FVec Ideal S64x1x1024 .f32) (ix3 a 0 e)
      = (m ((c : Thread nD τ).loc main_arg1) : FVec Ideal S128x9216 .f32)
          (ix2 ⟨t.val * 64 + a.val, by have : cfg0.N = 2 := N_0; omega⟩ ⟨6 * 1024 + e.val, by omega⟩) := by
  blk_point [iblk, V, idx t]

/-- The scale at a grid point. -/
theorem sc_at (c : Dev nD) (t : Fin cfg0.N) (a : Fin 64) (e : Fin 1024) :
    (iblk m c 2 t : FVec Ideal S64x1x1024 .f32) (ix3 a 0 e)
      = (m ((c : Thread nD τ).loc main_arg1) : FVec Ideal S128x9216 .f32)
          (ix2 ⟨t.val * 64 + a.val, by have : cfg0.N = 2 := N_0; omega⟩ ⟨(6 + 1) * 1024 + e.val, by omega⟩) := by
  blk_point [iblk, V, idx t]

/-- The gate at a grid point. -/
theorem gt_at (c : Dev nD) (t : Fin cfg0.N) (a : Fin 64) (e : Fin 1024) :
    (iblk m c 3 t : FVec Ideal S64x1x1024 .f32) (ix3 a 0 e)
      = (m ((c : Thread nD τ).loc main_arg1) : FVec Ideal S128x9216 .f32)
          (ix2 ⟨t.val * 64 + a.val, by have : cfg0.N = 2 := N_0; omega⟩ ⟨(6 + 2) * 1024 + e.val, by omega⟩) := by
  blk_point [iblk, V, idx t]

/-- The norm's weight is staged whole. -/
theorem nw_at (c : Dev nD) (t : Fin cfg0.N) (e : Fin 1024) :
    (iblk m c 4 t : FVec Ideal S1x1x1024 .f32) (ix3 0 0 e)
      = (m ((c : Thread nD τ).loc main_arg2) : FVec Ideal S1024 .f32) (ix1 e) := by
  blk_point [iblk, V, idx t]

/-- The first weight matrix is staged whole. -/
theorem wgu_at (c : Dev nD) (t : Fin cfg0.N) (k : Fin 1024) (j : Fin 5632) :
    (iblk m c 5 t : FVec Ideal S1024x5632 .bf16) (ix2 k j)
      = (m ((c : Thread nD τ).loc main_arg3) : FVec Ideal S1024x5632 .f32) (ix2 k j) := by
  blk_point [iblk, V, idx t]

/-- The second weight matrix is staged whole. -/
theorem wd_at (c : Dev nD) (t : Fin cfg0.N) (j : Fin 2816) (e : Fin 1024) :
    (iblk m c 6 t : FVec Ideal S2816x1024 .bf16) (ix2 j e)
      = (m ((c : Thread nD τ).loc main_arg4) : FVec Ideal S2816x1024 .f32) (ix2 j e) := by
  blk_point [iblk, V, idx t]

/-- The last norm's weight is staged whole. -/
theorem fn_at (c : Dev nD) (t : Fin cfg0.N) (e : Fin 1024) :
    (iblk m c 7 t : FVec Ideal S1x1x1024 .f32) (ix3 0 0 e)
      = (m ((c : Thread nD τ).loc main_arg5) : FVec Ideal S1024 .f32) (ix1 e) := by
  blk_point [iblk, V, idx t]

/-- The normed and modulated row: step `i` of sequence `a` is row `8a + i`. -/
theorem hidden_at (x : Vec Ideal S64x8x1024 .f32) (nw : Vec Ideal S1x1x1024 .f32) (sc sh : Vec Ideal S64x1x1024 .f32) (a : Fin 64) (i : Fin 8) (e : Fin 1024) :
    k0_pay3 (F := Ideal) x nw sc sh (ix2 ⟨a.val * 8 + i.val, by omega⟩ e)
      = modNorm (fun k => x (ix3 a i k)) (fun k => nw (ix3 0 0 k)) (fun k => sc (ix3 a 0 k)) (fun k => sh (ix3 a 0 k)) e := by
  unfold modNorm rms
  pointwise [k0_pay3]

/-- What the body stores, at an entry: the accumulator is the other feed-forward layer's. -/
theorem stored_at (x : Vec Ideal S64x8x1024 .f32) (nw fn : Vec Ideal S1x1x1024 .f32) (sc sh gt : Vec Ideal S64x1x1024 .f32) (wgu : Vec Ideal S1024x5632 .bf16)
    (wd : Vec Ideal S2816x1024 .bf16) (a : Fin 64) (i : Fin 8) (e : Fin 1024) :
    k0_pay2 (F := Ideal) x gt (Cert.FfnIdeal.Cell.acc (k0_pay3 x nw sc sh) wgu wd) fn (ix3 a i e)
      = rms (ffn (fun k => x (ix3 a i k)) (fun k => nw (ix3 0 0 k)) (fun k => sc (ix3 a 0 k)) (fun k => sh (ix3 a 0 k)) (fun k => gt (ix3 a 0 k))
          (fun j k => wgu (ix2 k ⟨j.val, by omega⟩)) (fun j k => wgu (ix2 k ⟨2816 + j.val, by omega⟩)) (fun k j => wd (ix2 j k))) e * fn (ix3 0 0 e) := by
  have h : ∀ k : Fin 1024, x (ix3 a i k) + Ideal.ofBits .f32 0x3F000000#32 * gt (ix3 a 0 k)
      * Cert.FfnIdeal.Cell.acc (k0_pay3 (F := Ideal) x nw sc sh) wgu wd (ix2 ⟨a.val * 8 + i.val, by omega⟩ k)
      = ffn (fun k => x (ix3 a i k)) (fun k => nw (ix3 0 0 k)) (fun k => sc (ix3 a 0 k)) (fun k => sh (ix3 a 0 k)) (fun k => gt (ix3 a 0 k))
          (fun j k => wgu (ix2 k ⟨j.val, by omega⟩)) (fun j k => wgu (ix2 k ⟨2816 + j.val, by omega⟩)) (fun k j => wd (ix2 j k)) k := by
    intro k
    rw [Cert.FfnIdeal.Cell.acc_at, show (fun k => k0_pay3 (F := Ideal) x nw sc sh (ix2 ⟨a.val * 8 + i.val, by omega⟩ k)) = _ from
      funext fun k => hidden_at x nw sc sh a i k]
    rfl
  rw [← funext h]
  generalize Cert.FfnIdeal.Cell.acc _ _ _ = y
  unfold rms
  pointwise [k0_pay2]

/-- The layer's result as one array. -/
def ffnSampleArray (x : FVec Ideal S128x8x1024 .f32) (mods : FVec Ideal S128x9216 .f32) (nw : FVec Ideal S1024 .f32)
    (wgu : FVec Ideal S1024x5632 .f32) (wd : FVec Ideal S2816x1024 .f32) (fn : FVec Ideal S1024 .f32) : FVec Ideal S128x8x1024 .f32 :=
  fun i => ffnFinalAt 6 x mods nw wgu wd fn (i 0) (i 1) (i 2)

set_option maxHeartbeats 1600000 in
/-- The result array after the run. -/
theorem final (c : Dev nD) : (dats m 0 c).arrAt 8 (cfgs 0).N
    = ffnSampleArray (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  unfold outsAt0
  frame_out
  have hN : t.val < 2 := N_0 ▸ t.isLt
  have hy : ∃ (a : Fin 64) (i : Fin 8) (e : Fin 1024), y = ix3 a i e := ⟨y 0, y 1, y 2, eq_ix3 y⟩
  obtain ⟨a, i, e, rfl⟩ := hy
  have he : ((View.whole main_v5).slice (win0_8.rect t)).emb (ix3 a i e) = ix3 (⟨t.val * 64 + a.val, by omega⟩ : Fin 128) i e := by
    blk_ext [idx t]
  refine Eq.trans ?_ (congrArg _ he).symm
  refine (stored_at (iblk m c 0 t) (iblk m c 4 t) (iblk m c 7 t) (iblk m c 2 t) (iblk m c 1 t) (iblk m c 3 t) (iblk m c 5 t) (iblk m c 6 t) a i e).trans ?_
  simp only [x_at, sh_at, sc_at, gt_at, nw_at, wgu_at, wd_at, fn_at]
  rfl

end Cert.FfnSampleIdeal.Cell

end
-- ==== Proof.FfnSampleRef.lean ====
module

public import proofs.«01_k».proof.Proof.Gen.FfnSampleRefIdeal.Read
public import proofs.«01_k».proof.Proof.FfnMath
public import Idealize.ShloMosaic.Lib.Pointwise

@[expose] public section

set_option maxRecDepth 16384

noncomputable section

/-! # The last feed-forward (sample) reference at an entry -/

namespace Cert.FfnSampleRefIdeal.Cell

open Cert.FfnSampleRefIdeal Cert.FfnSampleRefIdeal.Read Idealize.ShloMosaic
open FfnMath

variable (x : FVec Ideal S128x8x1024 .f32) (mods : FVec Ideal S128x9216 .f32) (nw : FVec Ideal S1024 .f32)
  (wgu : FVec Ideal S1024x5632 .f32) (wd : FVec Ideal S2816x1024 .f32)

/-- The shift. -/
theorem shift_at (b : Fin 128) (e : Fin 1024) :
    val_main_v14 (F := Ideal) mods (ix3 b 0 e) = mods (ix2 b ⟨6 * 1024 + e.val, by omega⟩) := by
  pointwise [val_main_v14, val_main_v13, val_main_v0]

/-- The scale. -/
theorem scale_at (b : Fin 128) (e : Fin 1024) :
    val_main_v16 (F := Ideal) mods (ix3 b 0 e) = mods (ix2 b ⟨(6 + 1) * 1024 + e.val, by omega⟩) := by
  pointwise [val_main_v16, val_main_v15, val_main_v0]

/-- Half the gate. -/
theorem gate_at (b : Fin 128) (e : Fin 1024) :
    val_main_v20 (F := Ideal) mods (ix3 b 0 e)
      = Ideal.ofBits .f32 0x3F000000#32 * mods (ix2 b ⟨(6 + 2) * 1024 + e.val, by omega⟩) := by
  pointwise [val_main_v20, val_main_v19, val_main_cst, val_main_v18, val_main_v17, val_main_v0]

/-- The normed row. -/
theorem rms_at (b : Fin 128) (s : Fin 8) (e : Fin 1024) :
    val_main_v30 (F := Ideal) x (ix3 b s e) = rms (fun k => x (ix3 b s k)) e := by
  unfold rms
  pointwise [val_main_v30, val_main_v29, val_main_v28, val_main_v27, val_main_v26, val_main_cst_2, val_main_v25, val_main_v24,
    val_main_cst_1, val_main_v23, val_main_v22, val_main_cst_0, val_main_v21]

/-- The normed and modulated row. -/
theorem hidden_at (b : Fin 128) (s : Fin 8) (e : Fin 1024) :
    val_main_v39 (F := Ideal) x mods nw (ix3 b s e)
      = modNorm (fun k => x (ix3 b s k)) (fun k => nw (ix1 k)) (fun k => mods (ix2 b ⟨(6 + 1) * 1024 + k.val, by omega⟩))
          (fun k => mods (ix2 b ⟨6 * 1024 + k.val, by omega⟩)) e := by
  unfold modNorm
  beta_reduce
  rw [← rms_at, ← shift_at mods b e, ← scale_at mods b e]
  unfold val_main_v39 val_main_v38 val_main_v37 val_main_v36 val_main_v35 val_main_v33
  generalize val_main_v30 (F := Ideal) x = y
  generalize val_main_v14 (F := Ideal) mods = p
  generalize val_main_v16 (F := Ideal) mods = q
  pointwise [val_main_v32, val_main_v31, val_main_v34, val_main_cst_3]

/-- One entry of the first matrix product. -/
theorem prod_at (b : Fin 128) (s : Fin 8) (j : Fin 5632) :
    val_main_v40 (F := Ideal) x mods nw wgu (ix3 b s j)
      = dot (fun k => val_main_v39 (F := Ideal) x mods nw (ix3 b s k)) (fun k => wgu (ix2 k j)) := by
  unfold val_main_v40 dot
  generalize val_main_v39 (F := Ideal) x mods nw = y
  pointwise

/-- One gated activation. -/
theorem act_at (b : Fin 128) (s : Fin 8) (j : Fin 2816) :
    val_main_v44 (F := Ideal) x mods nw wgu (ix3 b s j)
      = act (val_main_v40 (F := Ideal) x mods nw wgu (ix3 b s ⟨j.val, by omega⟩))
          (val_main_v40 (F := Ideal) x mods nw wgu (ix3 b s ⟨2816 + j.val, by omega⟩)) := by
  unfold val_main_v44 val_main_v43 val_main_call0_v5 val_main_call0_v3 val_main_call0_v1 val_main_call0_v0 val_main_v42 val_main_v41 act Ideal.logistic
  generalize val_main_v40 (F := Ideal) x mods nw wgu = y
  pointwise [val_main_call0_v4, val_main_call0_cst_0, val_main_call0_v2, val_main_call0_cst]

/-- The row before the last norm. -/
theorem pre_at (b : Fin 128) (s : Fin 8) (e : Fin 1024) :
    val_main_v48 (F := Ideal) x mods nw wgu wd (ix3 b s e) = ffnAt 6 x mods nw wgu wd b s e := by
  refine Eq.trans ?_ (show ffn (fun k => x (ix3 b s k)) (fun k => nw (ix1 k)) (fun k => mods (ix2 b ⟨(6 + 1) * 1024 + k.val, by omega⟩))
    (fun k => mods (ix2 b ⟨6 * 1024 + k.val, by omega⟩)) (fun k => mods (ix2 b ⟨(6 + 2) * 1024 + k.val, by omega⟩))
    (fun j k => wgu (ix2 k ⟨j.val, by omega⟩)) (fun j k => wgu (ix2 k ⟨2816 + j.val, by omega⟩)) (fun k j => wd (ix2 j k)) e = _ from rfl)
  unfold ffn swiglu
  beta_reduce
  rw [← gate_at mods b e, ← funext fun k => hidden_at x mods nw b s k]
  simp only [← prod_at x mods nw wgu b s, ← act_at x mods nw wgu b s]
  unfold val_main_v48 val_main_v47 val_main_v46 val_main_v45
  generalize val_main_v44 (F := Ideal) x mods nw wgu = y
  generalize val_main_v20 (F := Ideal) mods = g
  pointwise

/-- The result at an entry: the last norm of the row before it. -/
theorem res_at (fn : FVec Ideal S1024 .f32) (b : Fin 128) (s : Fin 8) (e : Fin 1024) :
    val_main_v61 (F := Ideal) x mods nw wgu wd fn (ix3 b s e) = ffnFinalAt 6 x mods nw wgu wd fn b s e := by
  unfold ffnFinalAt
  rw [← funext fun k => pre_at x mods nw wgu wd b s k]
  unfold val_main_v61 val_main_v58 val_main_v57 val_main_v56 val_main_v55 val_main_v53 val_main_v51 val_main_v50 val_main_v49 rms
  generalize val_main_v48 (F := Ideal) x mods nw wgu wd = y
  pointwise [val_main_v60, val_main_v59, val_main_v54, val_main_cst_6, val_main_v52, val_main_cst_5, val_main_cst_4]

end Cert.FfnSampleRefIdeal.Cell

end
-- ==== Proof.FfnSampleClaims.lean ====
module

public import proofs.«01_k».proof.Defs
public import proofs.«01_k».proof.Proof.Gen.FfnSample
public import proofs.«01_k».proof.Proof.Gen.FfnSample.Frame
public import proofs.«01_k».proof.Proof.Gen.FfnSampleIdeal
public import proofs.«01_k».proof.Proof.Gen.FfnSampleIdeal.Frame
public import proofs.«01_k».proof.Proof.Gen.FfnSampleIdeal.Value
public import proofs.«01_k».proof.Proof.Gen.FfnSampleRefIdeal
public import proofs.«01_k».proof.Proof.Gen.FfnSampleRefIdeal.Run
public import proofs.«01_k».proof.Proof.Gen.FfnSampleRefIdeal.Read
public import proofs.«01_k».proof.Proof.FfnSampleArray
public import proofs.«01_k».proof.Proof.FfnSampleRef
public import Idealize.ShloMosaic.Lib.Pipeline.ValueKit
public import Idealize.ShloMosaic.Lib.Claim

@[expose] public section

set_option maxRecDepth 16384

noncomputable section

/-! # The last feed-forward (sample) layer's claims -/

namespace Cert.FfnSampleClaims

open Idealize.ShloMosaic Idealize.SL.Sem

/-- The kernel's frame over bits. -/
theorem frame_bits : Cert.quiescent_FfnSample := fun m ρ _ => Cert.FfnSample.Gen.frame m ρ

/-- The kernel's frame over the reals. -/
theorem frame_ideal : Cert.quiescent_FfnSampleIdeal := fun m ρ _ => Cert.FfnSampleIdeal.Gen.frame m ρ

/-- The reference's run keeps its arguments and every counter at zero. -/
theorem frame_ref : Cert.quiescent_FfnSampleRefIdeal := fun m ρ _ =>
  (θ_run Cert.FfnSampleRefIdeal.defs _ _).mono
    (fun r h => ⟨fun c => (h c).2, Idealize.ShloMosaic.sem_eq_zero_of_no_sems (by decide) r.2⟩)
    (Cert.FfnSampleRefIdeal.Value.run (F := Ideal) m ρ)

/-- Nothing is rewritten. -/
theorem preserves : Cert.preserves_FfnSample_FfnSampleIdeal := trivial

/-- The reference's result is the same array. -/
theorem array (x : FVec Ideal Cert.FfnSampleRefIdeal.S128x8x1024 .f32) (mods : FVec Ideal Cert.FfnSampleRefIdeal.S128x9216 .f32)
    (nw : FVec Ideal Cert.FfnSampleRefIdeal.S1024 .f32) (wgu : FVec Ideal Cert.FfnSampleRefIdeal.S1024x5632 .f32)
    (wd : FVec Ideal Cert.FfnSampleRefIdeal.S2816x1024 .f32)
    (fn : FVec Ideal Cert.FfnSampleRefIdeal.S1024 .f32) :
    Cert.FfnSampleRefIdeal.Read.val_main_v61 (F := Ideal) x mods nw wgu wd fn = Cert.FfnSampleIdeal.Cell.ffnSampleArray x mods nw wgu wd fn := by
  funext i
  exact (congrArg _ (eq_ix3 i)).trans (Cert.FfnSampleRefIdeal.Cell.res_at x mods nw wgu wd fn (i 0) (i 1) (i 2))

/-- From agreeing arguments the kernel's result is the reference's. -/
theorem algebraic : Cert.algebraic_FfnSampleIdeal_FfnSampleRefIdeal := by
  pair_intro
  · run_from Cert.FfnSampleIdeal.Gen.run_main m g
  · run_from Cert.FfnSampleRefIdeal.Value.run (F := Ideal) m' g'
    obtain ⟨h0, h1, h2, h3, h4, h5⟩ := hagree c
    rw [Cert.FfnSampleRefIdeal.Read.val_main_v61_eq, h0, h1, h2, h3, h4, h5]
    exact (array _ _ _ _ _ _).trans (Cert.FfnSampleIdeal.Cell.final m c).symm

end Cert.FfnSampleClaims

end
-- ==== Proof.lean ====
/- The proof of the certificate: for the attention and for the two feed-forward layers, for the prompt and for the second layer of the samples, the frames, the meaning of what is
   rewritten, and the equality of each kernel's result with its reference's. -/
module

public import proofs.«01_k».proof.Defs
public import proofs.«01_k».proof.Proof.AttnClaims
public import proofs.«01_k».proof.Proof.FfnFinalClaims
public import proofs.«01_k».proof.Proof.FfnClaims
public import proofs.«01_k».proof.Proof.FfnSampleClaims

@[expose] public section

noncomputable section

namespace Cert.Proof

/-- Every claim of the certificate. -/
theorem claim : Cert.Claim := ⟨Cert.Attn.Gen.facts, Cert.AttnIdeal.Gen.facts, Cert.AttnRefIdeal.Gen.facts,
  Cert.FfnFinal.Gen.facts, Cert.FfnFinalIdeal.Gen.facts, Cert.FfnFinalRefIdeal.Gen.facts,
  Cert.Ffn.Gen.facts, Cert.FfnIdeal.Gen.facts, Cert.FfnRefIdeal.Gen.facts,
  Cert.FfnSample.Gen.facts, Cert.FfnSampleIdeal.Gen.facts, Cert.FfnSampleRefIdeal.Gen.facts, Cert.Pre_finite_scores.facts,
  Cert.AttnClaims.frame_bits, Cert.AttnClaims.frame_ideal, Cert.AttnClaims.frame_ideal_pre, Cert.AttnClaims.frame_ref,
  Cert.AttnClaims.frame_ref_pre,
  Cert.FfnFinalClaims.frame_bits, Cert.FfnFinalClaims.frame_ideal, Cert.FfnFinalClaims.frame_ref,
  Cert.FfnClaims.frame_bits, Cert.FfnClaims.frame_ideal, Cert.FfnClaims.frame_ref,
  Cert.FfnSampleClaims.frame_bits, Cert.FfnSampleClaims.frame_ideal, Cert.FfnSampleClaims.frame_ref,
  Cert.AttnClaims.preserves, Cert.AttnClaims.algebraic,
  Cert.FfnFinalClaims.preserves, Cert.FfnFinalClaims.algebraic,
  Cert.FfnClaims.preserves, Cert.FfnClaims.algebraic,
  Cert.FfnSampleClaims.preserves, Cert.FfnSampleClaims.algebraic⟩

end Cert.Proof

end
